-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S_ : Shape := ⟨0, ![]⟩
abbrev S4096x1024 : Shape := ⟨2, ![4096, 1024]⟩
abbrev S4096x4096 : Shape := ⟨2, ![4096, 4096]⟩
abbrev S2048x4096 : Shape := ⟨2, ![2048, 4096]⟩
abbrev S1024x4096 : Shape := ⟨2, ![1024, 4096]⟩
abbrev S36 : Shape := ⟨1, ![36]⟩
abbrev S12 : Shape := ⟨1, ![12]⟩
abbrev S1 : Shape := ⟨1, ![1]⟩
abbrev S1024x1280 : Shape := ⟨2, ![1024, 1280]⟩
abbrev S1024x768 : Shape := ⟨2, ![1024, 768]⟩
abbrev S512x1280 : Shape := ⟨2, ![512, 1280]⟩
abbrev S512x768 : Shape := ⟨2, ![512, 768]⟩
abbrev S256x1280 : Shape := ⟨2, ![256, 1280]⟩
abbrev S256x768 : Shape := ⟨2, ![256, 768]⟩
abbrev S2048x1280 : Shape := ⟨2, ![2048, 1280]⟩
abbrev S2048x768 : Shape := ⟨2, ![2048, 768]⟩

abbrev nBuf : Space → Nat
  | .hbm => 37
  | .vmem => 2
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4096x1024, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4096x1024, .f32⟩
  | .hbm, ⟨35, _⟩ => ⟨S4096x4096, .f32⟩
  | .hbm, ⟨36, _⟩ => ⟨S4096x4096, .f32⟩
  | .local _ .vmem, ⟨0, _⟩ => ⟨S2048x4096, .f32⟩
  | .local _ .vmem, ⟨1, _⟩ => ⟨S1024x4096, .f32⟩
  | _, _ => ⟨S4096x8192, .f32⟩

abbrev bufScoped : (cs : CoreSpace) → Fin (nBuf (.core cs)) → Bool
  | .vmem, ⟨0, _⟩ => true
  | .vmem, ⟨1, _⟩ => true
  | _, _ => false

abbrev semScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 37 84 bufScoped semScoped dmaSemScoped tileCredit tileCredit_eq_zero tileCredit_pos).withBarriers [(0, 36)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_v19 : Ref sig .tc := ⟨.hbm, 32, rfl⟩
abbrev main_c_11 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_scratch0 : Ref sig .tc := ⟨.vmem, 0, rfl⟩
abbrev cc0_scratch1 : Ref sig .tc := ⟨.vmem, 1, rfl⟩
abbrev barrier0 : Sem sig := 36

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_21 : BitVec 32 := 8#32
  let v45 : BitVec 32 := Scalar.muli v36 c8_i32_21
  let v46 : BitVec 32 := Scalar.addi c0_i32_22 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v47 : BitVec 32 := Scalar.muli v5 c4_i32_23
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v49 : BitVec 32 := Scalar.muli v8 c1_i32_24
  let v50 : BitVec 32 := Scalar.addi v48 v49
  v50.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v51 : BitVec 32 := Scalar.muli v2 c8_i32_26
  let v52 : BitVec 32 := Scalar.addi c0_i32_27 v51
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_28 : BitVec 32 := 4#32
  let v53 : BitVec 32 := Scalar.muli v37 c4_i32_28
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.muli v8 c1_i32_29
  let v56 : BitVec 32 := Scalar.addi v54 v55
  v56.toNat
def k0_dev3 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v57 : BitVec 32 := Scalar.muli v2 c8_i32_31
  let v58 : BitVec 32 := Scalar.addi c0_i32_32 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v59 : BitVec 32 := Scalar.muli v5 c4_i32_33
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_34 : BitVec 32 := 1#32
  let v61 : BitVec 32 := Scalar.muli v40 c1_i32_34
  let v62 : BitVec 32 := Scalar.addi v60 v61
  v62.toNat
def k0_dev4 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v63 : BitVec 32 := Scalar.muli v2 c8_i32_36
  let v64 : BitVec 32 := Scalar.addi c0_i32_37 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v65 : BitVec 32 := Scalar.muli v5 c4_i32_38
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_39 : BitVec 32 := 1#32
  let v67 : BitVec 32 := Scalar.muli v43 c1_i32_39
  let v68 : BitVec 32 := Scalar.addi v66 v67
  v68.toNat
def k0_off1 (d0 : Dev nD) (c0_i32_93 : BitVec 32) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v149 : BitVec 32 := Scalar.addi v73 c0_i32_93
  let c0_i32_97 : BitVec 32 := 0#32
  ![v149.toNat, 0]
def k0_dev5 (d0 : Dev nD) : Nat :=
  let c0_i32_107 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_106 : BitVec 32 := 8#32
  let v162 : BitVec 32 := Scalar.muli v36 c8_i32_106
  let v163 : BitVec 32 := Scalar.addi c0_i32_107 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_108 : BitVec 32 := 4#32
  let v164 : BitVec 32 := Scalar.muli v5 c4_i32_108
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v166 : BitVec 32 := Scalar.muli v8 c1_i32_109
  let v167 : BitVec 32 := Scalar.addi v165 v166
  v167.toNat
def k0_off2 (d0 : Dev nD) (c0_i32_103 : BitVec 32) : Fin 2 → Nat :=
  let c0_i32_42 : BitVec 32 := 0#32
  let c1_i32_41 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v69 : BitVec 32 := Scalar.subi c1_i32_41 v2
  let c2048_i32 : BitVec 32 := 2048#32
  let v70 : BitVec 32 := Scalar.muli v69 c2048_i32
  let v71 : BitVec 32 := Scalar.addi c0_i32_42 v70
  let v159 : BitVec 32 := Scalar.addi v71 c0_i32_103
  let c0_i32_121 : BitVec 32 := 0#32
  ![v159.toNat, 0]
def k0_dev6 (d0 : Dev nD) : Nat :=
  let c0_i32_116 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_115 : BitVec 32 := 8#32
  let v170 : BitVec 32 := Scalar.muli v36 c8_i32_115
  let v171 : BitVec 32 := Scalar.addi c0_i32_116 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v172 : BitVec 32 := Scalar.muli v5 c4_i32_117
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v174 : BitVec 32 := Scalar.muli v8 c1_i32_118
  let v175 : BitVec 32 := Scalar.addi v173 v174
  v175.toNat
def k0_off3 (d0 : Dev nD) (c0_i32_122 : BitVec 32) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v182 : BitVec 32 := Scalar.addi v113 c0_i32_122
  let c2560_i32_124 : BitVec 32 := 2560#32
  ![v182.toNat, 2560]
def k0_dev7 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v195 : BitVec 32 := Scalar.muli v2 c8_i32_131
  let v196 : BitVec 32 := Scalar.addi c0_i32_132 v195
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_133 : BitVec 32 := 4#32
  let v197 : BitVec 32 := Scalar.muli v37 c4_i32_133
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v199 : BitVec 32 := Scalar.muli v8 c1_i32_134
  let v200 : BitVec 32 := Scalar.addi v198 v199
  v200.toNat
def k0_off4 (d0 : Dev nD) (c0_i32_129 : BitVec 32) : Fin 2 → Nat :=
  let c0_i32_67 : BitVec 32 := 0#32
  let c1_i32_65 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v109 : BitVec 32 := Scalar.subi c1_i32_65 v5
  let c2048_i32_66 : BitVec 32 := 2048#32
  let v110 : BitVec 32 := Scalar.muli v109 c2048_i32_66
  let v111 : BitVec 32 := Scalar.addi c0_i32_67 v110
  let v192 : BitVec 32 := Scalar.addi v111 c0_i32_129
  let c2560_i32_146 : BitVec 32 := 2560#32
  ![v192.toNat, 2560]
def k0_dev8 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v203 : BitVec 32 := Scalar.muli v2 c8_i32_140
  let v204 : BitVec 32 := Scalar.addi c0_i32_141 v203
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_142 : BitVec 32 := 4#32
  let v205 : BitVec 32 := Scalar.muli v37 c4_i32_142
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v207 : BitVec 32 := Scalar.muli v8 c1_i32_143
  let v208 : BitVec 32 := Scalar.addi v206 v207
  v208.toNat
def k0_dev9 (d0 : Dev nD) : Nat :=
  let c0_i32_175 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_174 : BitVec 32 := 8#32
  let v242 : BitVec 32 := Scalar.muli v36 c8_i32_174
  let v243 : BitVec 32 := Scalar.addi c0_i32_175 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v244 : BitVec 32 := Scalar.muli v5 c4_i32_176
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v246 : BitVec 32 := Scalar.muli v8 c1_i32_177
  let v247 : BitVec 32 := Scalar.addi v245 v246
  v247.toNat
def k0_dev10 (d0 : Dev nD) : Nat :=
  let c0_i32_184 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_183 : BitVec 32 := 8#32
  let v250 : BitVec 32 := Scalar.muli v36 c8_i32_183
  let v251 : BitVec 32 := Scalar.addi c0_i32_184 v250
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_185 : BitVec 32 := 4#32
  let v252 : BitVec 32 := Scalar.muli v5 c4_i32_185
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v254 : BitVec 32 := Scalar.muli v8 c1_i32_186
  let v255 : BitVec 32 := Scalar.addi v253 v254
  v255.toNat
def k0_off5 (d0 : Dev nD) (c0_i32_190 : BitVec 32) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v262 : BitVec 32 := Scalar.addi v93 c0_i32_190
  let c1280_i32_192 : BitVec 32 := 1280#32
  ![v262.toNat, 1280]
def k0_dev11 (d0 : Dev nD) : Nat :=
  let c0_i32_201 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_200 : BitVec 32 := 8#32
  let v275 : BitVec 32 := Scalar.muli v36 c8_i32_200
  let v276 : BitVec 32 := Scalar.addi c0_i32_201 v275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v277 : BitVec 32 := Scalar.muli v5 c4_i32_202
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v279 : BitVec 32 := Scalar.muli v8 c1_i32_203
  let v280 : BitVec 32 := Scalar.addi v278 v279
  v280.toNat
def k0_off6 (d0 : Dev nD) (c0_i32_198 : BitVec 32) : Fin 2 → Nat :=
  let c0_i32_53 : BitVec 32 := 0#32
  let c1_i32_51 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v89 : BitVec 32 := Scalar.subi c1_i32_51 v2
  let c2048_i32_52 : BitVec 32 := 2048#32
  let v90 : BitVec 32 := Scalar.muli v89 c2048_i32_52
  let v91 : BitVec 32 := Scalar.addi c0_i32_53 v90
  let v272 : BitVec 32 := Scalar.addi v91 c0_i32_198
  let c1280_i32_215 : BitVec 32 := 1280#32
  ![v272.toNat, 1280]
def k0_dev12 (d0 : Dev nD) : Nat :=
  let c0_i32_210 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_209 : BitVec 32 := 8#32
  let v283 : BitVec 32 := Scalar.muli v36 c8_i32_209
  let v284 : BitVec 32 := Scalar.addi c0_i32_210 v283
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_211 : BitVec 32 := 4#32
  let v285 : BitVec 32 := Scalar.muli v5 c4_i32_211
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v287 : BitVec 32 := Scalar.muli v8 c1_i32_212
  let v288 : BitVec 32 := Scalar.addi v286 v287
  v288.toNat
def k0_dev13 (d0 : Dev nD) : Nat :=
  let c0_i32_243 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_242 : BitVec 32 := 8#32
  let v322 : BitVec 32 := Scalar.muli v2 c8_i32_242
  let v323 : BitVec 32 := Scalar.addi c0_i32_243 v322
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_244 : BitVec 32 := 4#32
  let v324 : BitVec 32 := Scalar.muli v37 c4_i32_244
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v326 : BitVec 32 := Scalar.muli v8 c1_i32_245
  let v327 : BitVec 32 := Scalar.addi v325 v326
  v327.toNat
def k0_dev14 (d0 : Dev nD) : Nat :=
  let c0_i32_252 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_251 : BitVec 32 := 8#32
  let v330 : BitVec 32 := Scalar.muli v2 c8_i32_251
  let v331 : BitVec 32 := Scalar.addi c0_i32_252 v330
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_253 : BitVec 32 := 4#32
  let v332 : BitVec 32 := Scalar.muli v37 c4_i32_253
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v334 : BitVec 32 := Scalar.muli v8 c1_i32_254
  let v335 : BitVec 32 := Scalar.addi v333 v334
  v335.toNat
def k0_off7 (d0 : Dev nD) (c0_i32_258 : BitVec 32) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v342 : BitVec 32 := Scalar.addi v133 c0_i32_258
  let c3328_i32_261 : BitVec 32 := 3328#32
  ![v342.toNat, 3328]
def k0_dev15 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_268 : BitVec 32 := 8#32
  let v355 : BitVec 32 := Scalar.muli v2 c8_i32_268
  let v356 : BitVec 32 := Scalar.addi c0_i32_269 v355
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_270 : BitVec 32 := 4#32
  let v357 : BitVec 32 := Scalar.muli v37 c4_i32_270
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v359 : BitVec 32 := Scalar.muli v8 c1_i32_271
  let v360 : BitVec 32 := Scalar.addi v358 v359
  v360.toNat
def k0_off8 (d0 : Dev nD) (c0_i32_266 : BitVec 32) : Fin 2 → Nat :=
  let c0_i32_81 : BitVec 32 := 0#32
  let c1_i32_79 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v129 : BitVec 32 := Scalar.subi c1_i32_79 v5
  let c2048_i32_80 : BitVec 32 := 2048#32
  let v130 : BitVec 32 := Scalar.muli v129 c2048_i32_80
  let v131 : BitVec 32 := Scalar.addi c0_i32_81 v130
  let v352 : BitVec 32 := Scalar.addi v131 c0_i32_266
  let c3328_i32_283 : BitVec 32 := 3328#32
  ![v352.toNat, 3328]
def k0_dev16 (d0 : Dev nD) : Nat :=
  let c0_i32_278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_277 : BitVec 32 := 8#32
  let v363 : BitVec 32 := Scalar.muli v2 c8_i32_277
  let v364 : BitVec 32 := Scalar.addi c0_i32_278 v363
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_279 : BitVec 32 := 4#32
  let v365 : BitVec 32 := Scalar.muli v37 c4_i32_279
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v367 : BitVec 32 := Scalar.muli v8 c1_i32_280
  let v368 : BitVec 32 := Scalar.addi v366 v367
  v368.toNat
def k0_dev17 (d0 : Dev nD) : Nat :=
  let c0_i32_311 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_310 : BitVec 32 := 8#32
  let v403 : BitVec 32 := Scalar.muli v2 c8_i32_310
  let v404 : BitVec 32 := Scalar.addi c0_i32_311 v403
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_312 : BitVec 32 := 4#32
  let v405 : BitVec 32 := Scalar.muli v37 c4_i32_312
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v407 : BitVec 32 := Scalar.muli v8 c1_i32_313
  let v408 : BitVec 32 := Scalar.addi v406 v407
  v408.toNat
def k0_off9 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let c1_i32_45 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v74 : BitVec 32 := Scalar.subi c1_i32_45 v5
  let c1024_i32 : BitVec 32 := 1024#32
  let v75 : BitVec 32 := Scalar.muli v74 c1024_i32
  let v76 : BitVec 32 := Scalar.addi v73 v75
  let v399 : BitVec 32 := Scalar.subi v76 v73
  let c0_i32_325 : BitVec 32 := 0#32
  ![v399.toNat, 0]
def k0_dev18 (d0 : Dev nD) : Nat :=
  let c0_i32_320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_319 : BitVec 32 := 8#32
  let v411 : BitVec 32 := Scalar.muli v2 c8_i32_319
  let v412 : BitVec 32 := Scalar.addi c0_i32_320 v411
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_321 : BitVec 32 := 4#32
  let v413 : BitVec 32 := Scalar.muli v37 c4_i32_321
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v415 : BitVec 32 := Scalar.muli v8 c1_i32_322
  let v416 : BitVec 32 := Scalar.addi v414 v415
  v416.toNat
def k0_dev19 (d0 : Dev nD) : Nat :=
  let c0_i32_354 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_353 : BitVec 32 := 8#32
  let v450 : BitVec 32 := Scalar.muli v36 c8_i32_353
  let v451 : BitVec 32 := Scalar.addi c0_i32_354 v450
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_355 : BitVec 32 := 4#32
  let v452 : BitVec 32 := Scalar.muli v5 c4_i32_355
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v454 : BitVec 32 := Scalar.muli v8 c1_i32_356
  let v455 : BitVec 32 := Scalar.addi v453 v454
  v455.toNat
def k0_dev20 (d0 : Dev nD) : Nat :=
  let c0_i32_363 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_362 : BitVec 32 := 8#32
  let v458 : BitVec 32 := Scalar.muli v36 c8_i32_362
  let v459 : BitVec 32 := Scalar.addi c0_i32_363 v458
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_364 : BitVec 32 := 4#32
  let v460 : BitVec 32 := Scalar.muli v5 c4_i32_364
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v462 : BitVec 32 := Scalar.muli v8 c1_i32_365
  let v463 : BitVec 32 := Scalar.addi v461 v462
  v463.toNat
def k0_dev21 (d0 : Dev nD) : Nat :=
  let c0_i32_396 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_395 : BitVec 32 := 8#32
  let v498 : BitVec 32 := Scalar.muli v2 c8_i32_395
  let v499 : BitVec 32 := Scalar.addi c0_i32_396 v498
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_397 : BitVec 32 := 4#32
  let v500 : BitVec 32 := Scalar.muli v5 c4_i32_397
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_398 : BitVec 32 := 1#32
  let v502 : BitVec 32 := Scalar.muli v40 c1_i32_398
  let v503 : BitVec 32 := Scalar.addi v501 v502
  v503.toNat
def k0_off10 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let c1_i32_70 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v114 : BitVec 32 := Scalar.subi c1_i32_70 v18
  let c1024_i32_71 : BitVec 32 := 1024#32
  let v115 : BitVec 32 := Scalar.muli v114 c1024_i32_71
  let v116 : BitVec 32 := Scalar.addi v113 v115
  let v494 : BitVec 32 := Scalar.subi v116 v113
  let c2560_i32_410 : BitVec 32 := 2560#32
  ![v494.toNat, 2560]
def k0_dev22 (d0 : Dev nD) : Nat :=
  let c0_i32_405 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_404 : BitVec 32 := 8#32
  let v506 : BitVec 32 := Scalar.muli v2 c8_i32_404
  let v507 : BitVec 32 := Scalar.addi c0_i32_405 v506
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_406 : BitVec 32 := 4#32
  let v508 : BitVec 32 := Scalar.muli v5 c4_i32_406
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_407 : BitVec 32 := 1#32
  let v510 : BitVec 32 := Scalar.muli v40 c1_i32_407
  let v511 : BitVec 32 := Scalar.addi v509 v510
  v511.toNat
def k0_dev23 (d0 : Dev nD) : Nat :=
  let c0_i32_438 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_437 : BitVec 32 := 8#32
  let v545 : BitVec 32 := Scalar.muli v2 c8_i32_437
  let v546 : BitVec 32 := Scalar.addi c0_i32_438 v545
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_439 : BitVec 32 := 4#32
  let v547 : BitVec 32 := Scalar.muli v37 c4_i32_439
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v549 : BitVec 32 := Scalar.muli v8 c1_i32_440
  let v550 : BitVec 32 := Scalar.addi v548 v549
  v550.toNat
def k0_dev24 (d0 : Dev nD) : Nat :=
  let c0_i32_447 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_446 : BitVec 32 := 8#32
  let v553 : BitVec 32 := Scalar.muli v2 c8_i32_446
  let v554 : BitVec 32 := Scalar.addi c0_i32_447 v553
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_448 : BitVec 32 := 4#32
  let v555 : BitVec 32 := Scalar.muli v37 c4_i32_448
  let v556 : BitVec 32 := Scalar.addi v554 v555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v557 : BitVec 32 := Scalar.muli v8 c1_i32_449
  let v558 : BitVec 32 := Scalar.addi v556 v557
  v558.toNat
def k0_off11 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v400 : BitVec 32 := Scalar.subi v78 v73
  let v579 : Index := Scalar.indexCast v400
  let c0_468 : Index := 0#32
  ![v579.toNat, 0]
def k0_dev25 (d0 : Dev nD) : Nat :=
  let c0_i32_475 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_474 : BitVec 32 := 8#32
  let v591 : BitVec 32 := Scalar.muli v2 c8_i32_474
  let v592 : BitVec 32 := Scalar.addi c0_i32_475 v591
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v593 : BitVec 32 := Scalar.muli v5 c4_i32_476
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_477 : BitVec 32 := 1#32
  let v595 : BitVec 32 := Scalar.muli v40 c1_i32_477
  let v596 : BitVec 32 := Scalar.addi v594 v595
  v596.toNat
def k0_off12 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let c1_i32_47 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v79 : BitVec 32 := Scalar.subi c1_i32_47 v18
  let c512_i32 : BitVec 32 := 512#32
  let v80 : BitVec 32 := Scalar.muli v79 c512_i32
  let v81 : BitVec 32 := Scalar.addi v78 v80
  let v587 : BitVec 32 := Scalar.subi v81 v73
  let c0_i32_489 : BitVec 32 := 0#32
  ![v587.toNat, 0]
def k0_dev26 (d0 : Dev nD) : Nat :=
  let c0_i32_484 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_483 : BitVec 32 := 8#32
  let v599 : BitVec 32 := Scalar.muli v2 c8_i32_483
  let v600 : BitVec 32 := Scalar.addi c0_i32_484 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_485 : BitVec 32 := 4#32
  let v601 : BitVec 32 := Scalar.muli v5 c4_i32_485
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_486 : BitVec 32 := 1#32
  let v603 : BitVec 32 := Scalar.muli v40 c1_i32_486
  let v604 : BitVec 32 := Scalar.addi v602 v603
  v604.toNat
def k0_dev27 (d0 : Dev nD) : Nat :=
  let c0_i32_517 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_516 : BitVec 32 := 8#32
  let v639 : BitVec 32 := Scalar.muli v2 c8_i32_516
  let v640 : BitVec 32 := Scalar.addi c0_i32_517 v639
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_518 : BitVec 32 := 4#32
  let v641 : BitVec 32 := Scalar.muli v37 c4_i32_518
  let v642 : BitVec 32 := Scalar.addi v640 v641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v643 : BitVec 32 := Scalar.muli v8 c1_i32_519
  let v644 : BitVec 32 := Scalar.addi v642 v643
  v644.toNat
def k0_off13 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v94 : BitVec 32 := Scalar.subi c1_i32_56 v5
  let c1024_i32_57 : BitVec 32 := 1024#32
  let v95 : BitVec 32 := Scalar.muli v94 c1024_i32_57
  let v96 : BitVec 32 := Scalar.addi v93 v95
  let v635 : BitVec 32 := Scalar.subi v96 v93
  let c1280_i32_531 : BitVec 32 := 1280#32
  ![v635.toNat, 1280]
def k0_dev28 (d0 : Dev nD) : Nat :=
  let c0_i32_526 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_525 : BitVec 32 := 8#32
  let v647 : BitVec 32 := Scalar.muli v2 c8_i32_525
  let v648 : BitVec 32 := Scalar.addi c0_i32_526 v647
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_527 : BitVec 32 := 4#32
  let v649 : BitVec 32 := Scalar.muli v37 c4_i32_527
  let v650 : BitVec 32 := Scalar.addi v648 v649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v651 : BitVec 32 := Scalar.muli v8 c1_i32_528
  let v652 : BitVec 32 := Scalar.addi v650 v651
  v652.toNat
def k0_off14 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let v495 : BitVec 32 := Scalar.subi v118 v113
  let v673 : Index := Scalar.indexCast v495
  let c2560_547 : Index := 2560#32
  ![v673.toNat, 2560]
def k0_dev29 (d0 : Dev nD) : Nat :=
  let c0_i32_553 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_552 : BitVec 32 := 8#32
  let v685 : BitVec 32 := Scalar.muli v2 c8_i32_552
  let v686 : BitVec 32 := Scalar.addi c0_i32_553 v685
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_554 : BitVec 32 := 4#32
  let v687 : BitVec 32 := Scalar.muli v5 c4_i32_554
  let v688 : BitVec 32 := Scalar.addi v686 v687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_555 : BitVec 32 := 1#32
  let v689 : BitVec 32 := Scalar.muli v43 c1_i32_555
  let v690 : BitVec 32 := Scalar.addi v688 v689
  v690.toNat
def k0_off15 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c1_i32_73 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v119 : BitVec 32 := Scalar.subi c1_i32_73 v35
  let c512_i32_74 : BitVec 32 := 512#32
  let v120 : BitVec 32 := Scalar.muli v119 c512_i32_74
  let v121 : BitVec 32 := Scalar.addi v118 v120
  let v681 : BitVec 32 := Scalar.subi v121 v113
  let c2560_i32_567 : BitVec 32 := 2560#32
  ![v681.toNat, 2560]
def k0_dev30 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_561 : BitVec 32 := 8#32
  let v693 : BitVec 32 := Scalar.muli v2 c8_i32_561
  let v694 : BitVec 32 := Scalar.addi c0_i32_562 v693
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_563 : BitVec 32 := 4#32
  let v695 : BitVec 32 := Scalar.muli v5 c4_i32_563
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_564 : BitVec 32 := 1#32
  let v697 : BitVec 32 := Scalar.muli v43 c1_i32_564
  let v698 : BitVec 32 := Scalar.addi v696 v697
  v698.toNat
def k0_dev31 (d0 : Dev nD) : Nat :=
  let c0_i32_595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_594 : BitVec 32 := 8#32
  let v733 : BitVec 32 := Scalar.muli v2 c8_i32_594
  let v734 : BitVec 32 := Scalar.addi c0_i32_595 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_596 : BitVec 32 := 4#32
  let v735 : BitVec 32 := Scalar.muli v5 c4_i32_596
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_597 : BitVec 32 := 1#32
  let v737 : BitVec 32 := Scalar.muli v40 c1_i32_597
  let v738 : BitVec 32 := Scalar.addi v736 v737
  v738.toNat
def k0_off16 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let c1_i32_84 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v134 : BitVec 32 := Scalar.subi c1_i32_84 v18
  let c1024_i32_85 : BitVec 32 := 1024#32
  let v135 : BitVec 32 := Scalar.muli v134 c1024_i32_85
  let v136 : BitVec 32 := Scalar.addi v133 v135
  let v729 : BitVec 32 := Scalar.subi v136 v133
  let c3328_i32_609 : BitVec 32 := 3328#32
  ![v729.toNat, 3328]
def k0_dev32 (d0 : Dev nD) : Nat :=
  let c0_i32_604 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_603 : BitVec 32 := 8#32
  let v741 : BitVec 32 := Scalar.muli v2 c8_i32_603
  let v742 : BitVec 32 := Scalar.addi c0_i32_604 v741
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_605 : BitVec 32 := 4#32
  let v743 : BitVec 32 := Scalar.muli v5 c4_i32_605
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_606 : BitVec 32 := 1#32
  let v745 : BitVec 32 := Scalar.muli v40 c1_i32_606
  let v746 : BitVec 32 := Scalar.addi v744 v745
  v746.toNat
def k0_off17 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_48 : BitVec 32 := 512#32
  let v82 : BitVec 32 := Scalar.muli v18 c512_i32_48
  let v83 : BitVec 32 := Scalar.addi v78 v82
  let v588 : BitVec 32 := Scalar.subi v83 v73
  let v767 : Index := Scalar.indexCast v588
  let c0_625 : Index := 0#32
  ![v767.toNat, 0]
def k0_dev33 (d0 : Dev nD) : Nat :=
  let c0_i32_632 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_631 : BitVec 32 := 8#32
  let v779 : BitVec 32 := Scalar.muli v2 c8_i32_631
  let v780 : BitVec 32 := Scalar.addi c0_i32_632 v779
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_633 : BitVec 32 := 4#32
  let v781 : BitVec 32 := Scalar.muli v5 c4_i32_633
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_634 : BitVec 32 := 1#32
  let v783 : BitVec 32 := Scalar.muli v43 c1_i32_634
  let v784 : BitVec 32 := Scalar.addi v782 v783
  v784.toNat
def k0_off18 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_48 : BitVec 32 := 512#32
  let v82 : BitVec 32 := Scalar.muli v18 c512_i32_48
  let v83 : BitVec 32 := Scalar.addi v78 v82
  let c1_i32_49 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v84 : BitVec 32 := Scalar.subi c1_i32_49 v35
  let c256_i32 : BitVec 32 := 256#32
  let v85 : BitVec 32 := Scalar.muli v84 c256_i32
  let v86 : BitVec 32 := Scalar.addi v83 v85
  let v775 : BitVec 32 := Scalar.subi v86 v73
  let c0_i32_646 : BitVec 32 := 0#32
  ![v775.toNat, 0]
def k0_dev34 (d0 : Dev nD) : Nat :=
  let c0_i32_641 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_640 : BitVec 32 := 8#32
  let v787 : BitVec 32 := Scalar.muli v2 c8_i32_640
  let v788 : BitVec 32 := Scalar.addi c0_i32_641 v787
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_642 : BitVec 32 := 4#32
  let v789 : BitVec 32 := Scalar.muli v5 c4_i32_642
  let v790 : BitVec 32 := Scalar.addi v788 v789
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_643 : BitVec 32 := 1#32
  let v791 : BitVec 32 := Scalar.muli v43 c1_i32_643
  let v792 : BitVec 32 := Scalar.addi v790 v791
  v792.toNat
def k0_off19 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v636 : BitVec 32 := Scalar.subi v98 v93
  let v813 : Index := Scalar.indexCast v636
  let c1280_662 : Index := 1280#32
  ![v813.toNat, 1280]
def k0_dev35 (d0 : Dev nD) : Nat :=
  let c0_i32_668 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_667 : BitVec 32 := 8#32
  let v825 : BitVec 32 := Scalar.muli v2 c8_i32_667
  let v826 : BitVec 32 := Scalar.addi c0_i32_668 v825
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_669 : BitVec 32 := 4#32
  let v827 : BitVec 32 := Scalar.muli v5 c4_i32_669
  let v828 : BitVec 32 := Scalar.addi v826 v827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_670 : BitVec 32 := 1#32
  let v829 : BitVec 32 := Scalar.muli v40 c1_i32_670
  let v830 : BitVec 32 := Scalar.addi v828 v829
  v830.toNat
def k0_off20 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let c1_i32_59 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v99 : BitVec 32 := Scalar.subi c1_i32_59 v18
  let c512_i32_60 : BitVec 32 := 512#32
  let v100 : BitVec 32 := Scalar.muli v99 c512_i32_60
  let v101 : BitVec 32 := Scalar.addi v98 v100
  let v821 : BitVec 32 := Scalar.subi v101 v93
  let c1280_i32_682 : BitVec 32 := 1280#32
  ![v821.toNat, 1280]
def k0_dev36 (d0 : Dev nD) : Nat :=
  let c0_i32_677 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_676 : BitVec 32 := 8#32
  let v833 : BitVec 32 := Scalar.muli v2 c8_i32_676
  let v834 : BitVec 32 := Scalar.addi c0_i32_677 v833
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v835 : BitVec 32 := Scalar.muli v5 c4_i32_678
  let v836 : BitVec 32 := Scalar.addi v834 v835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_679 : BitVec 32 := 1#32
  let v837 : BitVec 32 := Scalar.muli v40 c1_i32_679
  let v838 : BitVec 32 := Scalar.addi v836 v837
  v838.toNat
def k0_off21 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_75 : BitVec 32 := 512#32
  let v122 : BitVec 32 := Scalar.muli v35 c512_i32_75
  let v123 : BitVec 32 := Scalar.addi v118 v122
  let v682 : BitVec 32 := Scalar.subi v123 v113
  let v859 : Index := Scalar.indexCast v682
  let c2560_698 : Index := 2560#32
  ![v859.toNat, 2560]
def k0_dev37 (d0 : Dev nD) : Nat :=
  let c0_i32_704 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_703 : BitVec 32 := 8#32
  let v871 : BitVec 32 := Scalar.muli v36 c8_i32_703
  let v872 : BitVec 32 := Scalar.addi c0_i32_704 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_705 : BitVec 32 := 4#32
  let v873 : BitVec 32 := Scalar.muli v5 c4_i32_705
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v875 : BitVec 32 := Scalar.muli v8 c1_i32_706
  let v876 : BitVec 32 := Scalar.addi v874 v875
  v876.toNat
def k0_off22 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_75 : BitVec 32 := 512#32
  let v122 : BitVec 32 := Scalar.muli v35 c512_i32_75
  let v123 : BitVec 32 := Scalar.addi v118 v122
  let c1_i32_76 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v124 : BitVec 32 := Scalar.subi c1_i32_76 v2
  let c256_i32_77 : BitVec 32 := 256#32
  let v125 : BitVec 32 := Scalar.muli v124 c256_i32_77
  let v126 : BitVec 32 := Scalar.addi v123 v125
  let v867 : BitVec 32 := Scalar.subi v126 v113
  let c2560_i32_718 : BitVec 32 := 2560#32
  ![v867.toNat, 2560]
def k0_dev38 (d0 : Dev nD) : Nat :=
  let c0_i32_713 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_712 : BitVec 32 := 8#32
  let v879 : BitVec 32 := Scalar.muli v36 c8_i32_712
  let v880 : BitVec 32 := Scalar.addi c0_i32_713 v879
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_714 : BitVec 32 := 4#32
  let v881 : BitVec 32 := Scalar.muli v5 c4_i32_714
  let v882 : BitVec 32 := Scalar.addi v880 v881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v883 : BitVec 32 := Scalar.muli v8 c1_i32_715
  let v884 : BitVec 32 := Scalar.addi v882 v883
  v884.toNat
def k0_off23 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let v730 : BitVec 32 := Scalar.subi v138 v133
  let v905 : Index := Scalar.indexCast v730
  let c3328_734 : Index := 3328#32
  ![v905.toNat, 3328]
def k0_dev39 (d0 : Dev nD) : Nat :=
  let c0_i32_740 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_739 : BitVec 32 := 8#32
  let v917 : BitVec 32 := Scalar.muli v2 c8_i32_739
  let v918 : BitVec 32 := Scalar.addi c0_i32_740 v917
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_741 : BitVec 32 := 4#32
  let v919 : BitVec 32 := Scalar.muli v5 c4_i32_741
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_742 : BitVec 32 := 1#32
  let v921 : BitVec 32 := Scalar.muli v43 c1_i32_742
  let v922 : BitVec 32 := Scalar.addi v920 v921
  v922.toNat
def k0_off24 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c1_i32_87 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v139 : BitVec 32 := Scalar.subi c1_i32_87 v35
  let c512_i32_88 : BitVec 32 := 512#32
  let v140 : BitVec 32 := Scalar.muli v139 c512_i32_88
  let v141 : BitVec 32 := Scalar.addi v138 v140
  let v913 : BitVec 32 := Scalar.subi v141 v133
  let c3328_i32_754 : BitVec 32 := 3328#32
  ![v913.toNat, 3328]
def k0_dev40 (d0 : Dev nD) : Nat :=
  let c0_i32_749 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_748 : BitVec 32 := 8#32
  let v925 : BitVec 32 := Scalar.muli v2 c8_i32_748
  let v926 : BitVec 32 := Scalar.addi c0_i32_749 v925
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_750 : BitVec 32 := 4#32
  let v927 : BitVec 32 := Scalar.muli v5 c4_i32_750
  let v928 : BitVec 32 := Scalar.addi v926 v927
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_751 : BitVec 32 := 1#32
  let v929 : BitVec 32 := Scalar.muli v43 c1_i32_751
  let v930 : BitVec 32 := Scalar.addi v928 v929
  v930.toNat
def k0_off25 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_48 : BitVec 32 := 512#32
  let v82 : BitVec 32 := Scalar.muli v18 c512_i32_48
  let v83 : BitVec 32 := Scalar.addi v78 v82
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c256_i32_50 : BitVec 32 := 256#32
  let v87 : BitVec 32 := Scalar.muli v35 c256_i32_50
  let v88 : BitVec 32 := Scalar.addi v83 v87
  let v776 : BitVec 32 := Scalar.subi v88 v73
  let v951 : Index := Scalar.indexCast v776
  let c0_770 : Index := 0#32
  ![v951.toNat, 0]
def k0_off26 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_48 : BitVec 32 := 512#32
  let v82 : BitVec 32 := Scalar.muli v18 c512_i32_48
  let v83 : BitVec 32 := Scalar.addi v78 v82
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c256_i32_50 : BitVec 32 := 256#32
  let v87 : BitVec 32 := Scalar.muli v35 c256_i32_50
  let v88 : BitVec 32 := Scalar.addi v83 v87
  let c0_i32_775 : BitVec 32 := 0#32
  ![v88.toNat, 0]
def k0_off27 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_48 : BitVec 32 := 512#32
  let v82 : BitVec 32 := Scalar.muli v18 c512_i32_48
  let v83 : BitVec 32 := Scalar.addi v78 v82
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c256_i32_50 : BitVec 32 := 256#32
  let v87 : BitVec 32 := Scalar.muli v35 c256_i32_50
  let v88 : BitVec 32 := Scalar.addi v83 v87
  let v959 : BitVec 32 := Scalar.subi v88 v73
  let c0_i32_776 : BitVec 32 := 0#32
  ![v959.toNat, 0]
def k0_dev41 (d0 : Dev nD) : Nat :=
  let c0_i32_779 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_778 : BitVec 32 := 8#32
  let v967 : BitVec 32 := Scalar.muli v2 c8_i32_778
  let v968 : BitVec 32 := Scalar.addi c0_i32_779 v967
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_780 : BitVec 32 := 4#32
  let v969 : BitVec 32 := Scalar.muli v5 c4_i32_780
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_781 : BitVec 32 := 1#32
  let v971 : BitVec 32 := Scalar.muli v43 c1_i32_781
  let v972 : BitVec 32 := Scalar.addi v970 v971
  v972.toNat
def k0_dev42 (d0 : Dev nD) : Nat :=
  let c0_i32_788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_787 : BitVec 32 := 8#32
  let v975 : BitVec 32 := Scalar.muli v2 c8_i32_787
  let v976 : BitVec 32 := Scalar.addi c0_i32_788 v975
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_789 : BitVec 32 := 4#32
  let v977 : BitVec 32 := Scalar.muli v5 c4_i32_789
  let v978 : BitVec 32 := Scalar.addi v976 v977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_790 : BitVec 32 := 1#32
  let v979 : BitVec 32 := Scalar.muli v43 c1_i32_790
  let v980 : BitVec 32 := Scalar.addi v978 v979
  v980.toNat
def k0_off28 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_61 : BitVec 32 := 512#32
  let v102 : BitVec 32 := Scalar.muli v18 c512_i32_61
  let v103 : BitVec 32 := Scalar.addi v98 v102
  let v822 : BitVec 32 := Scalar.subi v103 v93
  let v1001 : Index := Scalar.indexCast v822
  let c1280_808 : Index := 1280#32
  ![v1001.toNat, 1280]
def k0_dev43 (d0 : Dev nD) : Nat :=
  let c0_i32_814 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_813 : BitVec 32 := 8#32
  let v1013 : BitVec 32 := Scalar.muli v2 c8_i32_813
  let v1014 : BitVec 32 := Scalar.addi c0_i32_814 v1013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_815 : BitVec 32 := 4#32
  let v1015 : BitVec 32 := Scalar.muli v5 c4_i32_815
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_816 : BitVec 32 := 1#32
  let v1017 : BitVec 32 := Scalar.muli v43 c1_i32_816
  let v1018 : BitVec 32 := Scalar.addi v1016 v1017
  v1018.toNat
def k0_off29 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_61 : BitVec 32 := 512#32
  let v102 : BitVec 32 := Scalar.muli v18 c512_i32_61
  let v103 : BitVec 32 := Scalar.addi v98 v102
  let c1_i32_62 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v104 : BitVec 32 := Scalar.subi c1_i32_62 v35
  let c256_i32_63 : BitVec 32 := 256#32
  let v105 : BitVec 32 := Scalar.muli v104 c256_i32_63
  let v106 : BitVec 32 := Scalar.addi v103 v105
  let v1009 : BitVec 32 := Scalar.subi v106 v93
  let c1280_i32_828 : BitVec 32 := 1280#32
  ![v1009.toNat, 1280]
def k0_dev44 (d0 : Dev nD) : Nat :=
  let c0_i32_823 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_822 : BitVec 32 := 8#32
  let v1021 : BitVec 32 := Scalar.muli v2 c8_i32_822
  let v1022 : BitVec 32 := Scalar.addi c0_i32_823 v1021
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_824 : BitVec 32 := 4#32
  let v1023 : BitVec 32 := Scalar.muli v5 c4_i32_824
  let v1024 : BitVec 32 := Scalar.addi v1022 v1023
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_825 : BitVec 32 := 1#32
  let v1025 : BitVec 32 := Scalar.muli v43 c1_i32_825
  let v1026 : BitVec 32 := Scalar.addi v1024 v1025
  v1026.toNat
def k0_off30 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_75 : BitVec 32 := 512#32
  let v122 : BitVec 32 := Scalar.muli v35 c512_i32_75
  let v123 : BitVec 32 := Scalar.addi v118 v122
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_78 : BitVec 32 := 256#32
  let v127 : BitVec 32 := Scalar.muli v2 c256_i32_78
  let v128 : BitVec 32 := Scalar.addi v123 v127
  let v868 : BitVec 32 := Scalar.subi v128 v113
  let v1047 : Index := Scalar.indexCast v868
  let c2560_844 : Index := 2560#32
  ![v1047.toNat, 2560]
def k0_off31 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_75 : BitVec 32 := 512#32
  let v122 : BitVec 32 := Scalar.muli v35 c512_i32_75
  let v123 : BitVec 32 := Scalar.addi v118 v122
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_78 : BitVec 32 := 256#32
  let v127 : BitVec 32 := Scalar.muli v2 c256_i32_78
  let v128 : BitVec 32 := Scalar.addi v123 v127
  let c2560_i32_849 : BitVec 32 := 2560#32
  ![v128.toNat, 2560]
def k0_off32 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_75 : BitVec 32 := 512#32
  let v122 : BitVec 32 := Scalar.muli v35 c512_i32_75
  let v123 : BitVec 32 := Scalar.addi v118 v122
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_78 : BitVec 32 := 256#32
  let v127 : BitVec 32 := Scalar.muli v2 c256_i32_78
  let v128 : BitVec 32 := Scalar.addi v123 v127
  let v1055 : BitVec 32 := Scalar.subi v128 v113
  let c2560_i32_850 : BitVec 32 := 2560#32
  ![v1055.toNat, 2560]
def k0_dev45 (d0 : Dev nD) : Nat :=
  let c0_i32_853 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_852 : BitVec 32 := 8#32
  let v1063 : BitVec 32 := Scalar.muli v36 c8_i32_852
  let v1064 : BitVec 32 := Scalar.addi c0_i32_853 v1063
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v1065 : BitVec 32 := Scalar.muli v5 c4_i32_854
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v1067 : BitVec 32 := Scalar.muli v8 c1_i32_855
  let v1068 : BitVec 32 := Scalar.addi v1066 v1067
  v1068.toNat
def k0_dev46 (d0 : Dev nD) : Nat :=
  let c0_i32_862 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_861 : BitVec 32 := 8#32
  let v1071 : BitVec 32 := Scalar.muli v36 c8_i32_861
  let v1072 : BitVec 32 := Scalar.addi c0_i32_862 v1071
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_863 : BitVec 32 := 4#32
  let v1073 : BitVec 32 := Scalar.muli v5 c4_i32_863
  let v1074 : BitVec 32 := Scalar.addi v1072 v1073
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_864 : BitVec 32 := 1#32
  let v1075 : BitVec 32 := Scalar.muli v8 c1_i32_864
  let v1076 : BitVec 32 := Scalar.addi v1074 v1075
  v1076.toNat
def k0_off33 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_89 : BitVec 32 := 512#32
  let v142 : BitVec 32 := Scalar.muli v35 c512_i32_89
  let v143 : BitVec 32 := Scalar.addi v138 v142
  let v914 : BitVec 32 := Scalar.subi v143 v133
  let v1097 : Index := Scalar.indexCast v914
  let c3328_882 : Index := 3328#32
  ![v1097.toNat, 3328]
def k0_dev47 (d0 : Dev nD) : Nat :=
  let c0_i32_888 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_887 : BitVec 32 := 8#32
  let v1109 : BitVec 32 := Scalar.muli v36 c8_i32_887
  let v1110 : BitVec 32 := Scalar.addi c0_i32_888 v1109
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_889 : BitVec 32 := 4#32
  let v1111 : BitVec 32 := Scalar.muli v5 c4_i32_889
  let v1112 : BitVec 32 := Scalar.addi v1110 v1111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_890 : BitVec 32 := 1#32
  let v1113 : BitVec 32 := Scalar.muli v8 c1_i32_890
  let v1114 : BitVec 32 := Scalar.addi v1112 v1113
  v1114.toNat
def k0_off34 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_89 : BitVec 32 := 512#32
  let v142 : BitVec 32 := Scalar.muli v35 c512_i32_89
  let v143 : BitVec 32 := Scalar.addi v138 v142
  let c1_i32_90 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v144 : BitVec 32 := Scalar.subi c1_i32_90 v2
  let c256_i32_91 : BitVec 32 := 256#32
  let v145 : BitVec 32 := Scalar.muli v144 c256_i32_91
  let v146 : BitVec 32 := Scalar.addi v143 v145
  let v1105 : BitVec 32 := Scalar.subi v146 v133
  let c3328_i32_902 : BitVec 32 := 3328#32
  ![v1105.toNat, 3328]
def k0_dev48 (d0 : Dev nD) : Nat :=
  let c0_i32_897 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_896 : BitVec 32 := 8#32
  let v1117 : BitVec 32 := Scalar.muli v36 c8_i32_896
  let v1118 : BitVec 32 := Scalar.addi c0_i32_897 v1117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_898 : BitVec 32 := 4#32
  let v1119 : BitVec 32 := Scalar.muli v5 c4_i32_898
  let v1120 : BitVec 32 := Scalar.addi v1118 v1119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_899 : BitVec 32 := 1#32
  let v1121 : BitVec 32 := Scalar.muli v8 c1_i32_899
  let v1122 : BitVec 32 := Scalar.addi v1120 v1121
  v1122.toNat
def k0_dev49 (d0 : Dev nD) : Nat :=
  let c0_i32_922 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_921 : BitVec 32 := 8#32
  let v1149 : BitVec 32 := Scalar.muli v2 c8_i32_921
  let v1150 : BitVec 32 := Scalar.addi c0_i32_922 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_923 : BitVec 32 := 4#32
  let v1151 : BitVec 32 := Scalar.muli v5 c4_i32_923
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_924 : BitVec 32 := 1#32
  let v1153 : BitVec 32 := Scalar.muli v40 c1_i32_924
  let v1154 : BitVec 32 := Scalar.addi v1152 v1153
  v1154.toNat
def k0_off35 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_48 : BitVec 32 := 512#32
  let v82 : BitVec 32 := Scalar.muli v18 c512_i32_48
  let v83 : BitVec 32 := Scalar.addi v78 v82
  let c0_i32_934 : BitVec 32 := 0#32
  ![v83.toNat, 0]
def k0_dev50 (d0 : Dev nD) : Nat :=
  let c0_i32_931 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_930 : BitVec 32 := 8#32
  let v1157 : BitVec 32 := Scalar.muli v2 c8_i32_930
  let v1158 : BitVec 32 := Scalar.addi c0_i32_931 v1157
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_932 : BitVec 32 := 4#32
  let v1159 : BitVec 32 := Scalar.muli v5 c4_i32_932
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_933 : BitVec 32 := 1#32
  let v1161 : BitVec 32 := Scalar.muli v40 c1_i32_933
  let v1162 : BitVec 32 := Scalar.addi v1160 v1161
  v1162.toNat
def k0_off36 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_61 : BitVec 32 := 512#32
  let v102 : BitVec 32 := Scalar.muli v18 c512_i32_61
  let v103 : BitVec 32 := Scalar.addi v98 v102
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c256_i32_64 : BitVec 32 := 256#32
  let v107 : BitVec 32 := Scalar.muli v35 c256_i32_64
  let v108 : BitVec 32 := Scalar.addi v103 v107
  let v1010 : BitVec 32 := Scalar.subi v108 v93
  let v1183 : Index := Scalar.indexCast v1010
  let c1280_951 : Index := 1280#32
  ![v1183.toNat, 1280]
def k0_off37 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_61 : BitVec 32 := 512#32
  let v102 : BitVec 32 := Scalar.muli v18 c512_i32_61
  let v103 : BitVec 32 := Scalar.addi v98 v102
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c256_i32_64 : BitVec 32 := 256#32
  let v107 : BitVec 32 := Scalar.muli v35 c256_i32_64
  let v108 : BitVec 32 := Scalar.addi v103 v107
  let c1280_i32_956 : BitVec 32 := 1280#32
  ![v108.toNat, 1280]
def k0_off38 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_61 : BitVec 32 := 512#32
  let v102 : BitVec 32 := Scalar.muli v18 c512_i32_61
  let v103 : BitVec 32 := Scalar.addi v98 v102
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c256_i32_64 : BitVec 32 := 256#32
  let v107 : BitVec 32 := Scalar.muli v35 c256_i32_64
  let v108 : BitVec 32 := Scalar.addi v103 v107
  let v1191 : BitVec 32 := Scalar.subi v108 v93
  let c1280_i32_957 : BitVec 32 := 1280#32
  ![v1191.toNat, 1280]
def k0_dev51 (d0 : Dev nD) : Nat :=
  let c0_i32_960 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_959 : BitVec 32 := 8#32
  let v1199 : BitVec 32 := Scalar.muli v2 c8_i32_959
  let v1200 : BitVec 32 := Scalar.addi c0_i32_960 v1199
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_961 : BitVec 32 := 4#32
  let v1201 : BitVec 32 := Scalar.muli v5 c4_i32_961
  let v1202 : BitVec 32 := Scalar.addi v1200 v1201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_962 : BitVec 32 := 1#32
  let v1203 : BitVec 32 := Scalar.muli v43 c1_i32_962
  let v1204 : BitVec 32 := Scalar.addi v1202 v1203
  v1204.toNat
def k0_dev52 (d0 : Dev nD) : Nat :=
  let c0_i32_969 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_968 : BitVec 32 := 8#32
  let v1207 : BitVec 32 := Scalar.muli v2 c8_i32_968
  let v1208 : BitVec 32 := Scalar.addi c0_i32_969 v1207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_970 : BitVec 32 := 4#32
  let v1209 : BitVec 32 := Scalar.muli v5 c4_i32_970
  let v1210 : BitVec 32 := Scalar.addi v1208 v1209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_971 : BitVec 32 := 1#32
  let v1211 : BitVec 32 := Scalar.muli v43 c1_i32_971
  let v1212 : BitVec 32 := Scalar.addi v1210 v1211
  v1212.toNat
def k0_dev53 (d0 : Dev nD) : Nat :=
  let c0_i32_992 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_991 : BitVec 32 := 8#32
  let v1239 : BitVec 32 := Scalar.muli v2 c8_i32_991
  let v1240 : BitVec 32 := Scalar.addi c0_i32_992 v1239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_993 : BitVec 32 := 4#32
  let v1241 : BitVec 32 := Scalar.muli v5 c4_i32_993
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_994 : BitVec 32 := 1#32
  let v1243 : BitVec 32 := Scalar.muli v43 c1_i32_994
  let v1244 : BitVec 32 := Scalar.addi v1242 v1243
  v1244.toNat
def k0_off39 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_75 : BitVec 32 := 512#32
  let v122 : BitVec 32 := Scalar.muli v35 c512_i32_75
  let v123 : BitVec 32 := Scalar.addi v118 v122
  let c2560_i32_1004 : BitVec 32 := 2560#32
  ![v123.toNat, 2560]
def k0_dev54 (d0 : Dev nD) : Nat :=
  let c0_i32_1001 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1000 : BitVec 32 := 8#32
  let v1247 : BitVec 32 := Scalar.muli v2 c8_i32_1000
  let v1248 : BitVec 32 := Scalar.addi c0_i32_1001 v1247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1002 : BitVec 32 := 4#32
  let v1249 : BitVec 32 := Scalar.muli v5 c4_i32_1002
  let v1250 : BitVec 32 := Scalar.addi v1248 v1249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_1003 : BitVec 32 := 1#32
  let v1251 : BitVec 32 := Scalar.muli v43 c1_i32_1003
  let v1252 : BitVec 32 := Scalar.addi v1250 v1251
  v1252.toNat
def k0_off40 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_89 : BitVec 32 := 512#32
  let v142 : BitVec 32 := Scalar.muli v35 c512_i32_89
  let v143 : BitVec 32 := Scalar.addi v138 v142
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_92 : BitVec 32 := 256#32
  let v147 : BitVec 32 := Scalar.muli v2 c256_i32_92
  let v148 : BitVec 32 := Scalar.addi v143 v147
  let v1106 : BitVec 32 := Scalar.subi v148 v133
  let v1273 : Index := Scalar.indexCast v1106
  let c3328_1021 : Index := 3328#32
  ![v1273.toNat, 3328]
def k0_off41 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_89 : BitVec 32 := 512#32
  let v142 : BitVec 32 := Scalar.muli v35 c512_i32_89
  let v143 : BitVec 32 := Scalar.addi v138 v142
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_92 : BitVec 32 := 256#32
  let v147 : BitVec 32 := Scalar.muli v2 c256_i32_92
  let v148 : BitVec 32 := Scalar.addi v143 v147
  let c3328_i32_1026 : BitVec 32 := 3328#32
  ![v148.toNat, 3328]
def k0_off42 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_89 : BitVec 32 := 512#32
  let v142 : BitVec 32 := Scalar.muli v35 c512_i32_89
  let v143 : BitVec 32 := Scalar.addi v138 v142
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_92 : BitVec 32 := 256#32
  let v147 : BitVec 32 := Scalar.muli v2 c256_i32_92
  let v148 : BitVec 32 := Scalar.addi v143 v147
  let v1281 : BitVec 32 := Scalar.subi v148 v133
  let c3328_i32_1027 : BitVec 32 := 3328#32
  ![v1281.toNat, 3328]
def k0_dev55 (d0 : Dev nD) : Nat :=
  let c0_i32_1030 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_1029 : BitVec 32 := 8#32
  let v1289 : BitVec 32 := Scalar.muli v36 c8_i32_1029
  let v1290 : BitVec 32 := Scalar.addi c0_i32_1030 v1289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1031 : BitVec 32 := 4#32
  let v1291 : BitVec 32 := Scalar.muli v5 c4_i32_1031
  let v1292 : BitVec 32 := Scalar.addi v1290 v1291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1293 : BitVec 32 := Scalar.muli v8 c1_i32_1032
  let v1294 : BitVec 32 := Scalar.addi v1292 v1293
  v1294.toNat
def k0_dev56 (d0 : Dev nD) : Nat :=
  let c0_i32_1039 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_1038 : BitVec 32 := 8#32
  let v1297 : BitVec 32 := Scalar.muli v36 c8_i32_1038
  let v1298 : BitVec 32 := Scalar.addi c0_i32_1039 v1297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1040 : BitVec 32 := 4#32
  let v1299 : BitVec 32 := Scalar.muli v5 c4_i32_1040
  let v1300 : BitVec 32 := Scalar.addi v1298 v1299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1301 : BitVec 32 := Scalar.muli v8 c1_i32_1041
  let v1302 : BitVec 32 := Scalar.addi v1300 v1301
  v1302.toNat
def k0_dev57 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1059 : BitVec 32 := 8#32
  let v1325 : BitVec 32 := Scalar.muli v2 c8_i32_1059
  let v1326 : BitVec 32 := Scalar.addi c0_i32_1060 v1325
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1061 : BitVec 32 := 4#32
  let v1327 : BitVec 32 := Scalar.muli v37 c4_i32_1061
  let v1328 : BitVec 32 := Scalar.addi v1326 v1327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1062 : BitVec 32 := 1#32
  let v1329 : BitVec 32 := Scalar.muli v8 c1_i32_1062
  let v1330 : BitVec 32 := Scalar.addi v1328 v1329
  v1330.toNat
def k0_off43 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_46 : BitVec 32 := 1024#32
  let v77 : BitVec 32 := Scalar.muli v5 c1024_i32_46
  let v78 : BitVec 32 := Scalar.addi v73 v77
  let c0_i32_1072 : BitVec 32 := 0#32
  ![v78.toNat, 0]
def k0_dev58 (d0 : Dev nD) : Nat :=
  let c0_i32_1069 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1068 : BitVec 32 := 8#32
  let v1333 : BitVec 32 := Scalar.muli v2 c8_i32_1068
  let v1334 : BitVec 32 := Scalar.addi c0_i32_1069 v1333
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1070 : BitVec 32 := 4#32
  let v1335 : BitVec 32 := Scalar.muli v37 c4_i32_1070
  let v1336 : BitVec 32 := Scalar.addi v1334 v1335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1071 : BitVec 32 := 1#32
  let v1337 : BitVec 32 := Scalar.muli v8 c1_i32_1071
  let v1338 : BitVec 32 := Scalar.addi v1336 v1337
  v1338.toNat
def k0_dev59 (d0 : Dev nD) : Nat :=
  let c0_i32_1092 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1091 : BitVec 32 := 8#32
  let v1365 : BitVec 32 := Scalar.muli v2 c8_i32_1091
  let v1366 : BitVec 32 := Scalar.addi c0_i32_1092 v1365
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1093 : BitVec 32 := 4#32
  let v1367 : BitVec 32 := Scalar.muli v5 c4_i32_1093
  let v1368 : BitVec 32 := Scalar.addi v1366 v1367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_1094 : BitVec 32 := 1#32
  let v1369 : BitVec 32 := Scalar.muli v40 c1_i32_1094
  let v1370 : BitVec 32 := Scalar.addi v1368 v1369
  v1370.toNat
def k0_off44 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_61 : BitVec 32 := 512#32
  let v102 : BitVec 32 := Scalar.muli v18 c512_i32_61
  let v103 : BitVec 32 := Scalar.addi v98 v102
  let c1280_i32_1104 : BitVec 32 := 1280#32
  ![v103.toNat, 1280]
def k0_dev60 (d0 : Dev nD) : Nat :=
  let c0_i32_1101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1100 : BitVec 32 := 8#32
  let v1373 : BitVec 32 := Scalar.muli v2 c8_i32_1100
  let v1374 : BitVec 32 := Scalar.addi c0_i32_1101 v1373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1102 : BitVec 32 := 4#32
  let v1375 : BitVec 32 := Scalar.muli v5 c4_i32_1102
  let v1376 : BitVec 32 := Scalar.addi v1374 v1375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_1103 : BitVec 32 := 1#32
  let v1377 : BitVec 32 := Scalar.muli v40 c1_i32_1103
  let v1378 : BitVec 32 := Scalar.addi v1376 v1377
  v1378.toNat
def k0_dev61 (d0 : Dev nD) : Nat :=
  let c0_i32_1121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1120 : BitVec 32 := 8#32
  let v1401 : BitVec 32 := Scalar.muli v2 c8_i32_1120
  let v1402 : BitVec 32 := Scalar.addi c0_i32_1121 v1401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1122 : BitVec 32 := 4#32
  let v1403 : BitVec 32 := Scalar.muli v5 c4_i32_1122
  let v1404 : BitVec 32 := Scalar.addi v1402 v1403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_1123 : BitVec 32 := 1#32
  let v1405 : BitVec 32 := Scalar.muli v40 c1_i32_1123
  let v1406 : BitVec 32 := Scalar.addi v1404 v1405
  v1406.toNat
def k0_off45 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_72 : BitVec 32 := 1024#32
  let v117 : BitVec 32 := Scalar.muli v18 c1024_i32_72
  let v118 : BitVec 32 := Scalar.addi v113 v117
  let c2560_i32_1133 : BitVec 32 := 2560#32
  ![v118.toNat, 2560]
def k0_dev62 (d0 : Dev nD) : Nat :=
  let c0_i32_1130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1129 : BitVec 32 := 8#32
  let v1409 : BitVec 32 := Scalar.muli v2 c8_i32_1129
  let v1410 : BitVec 32 := Scalar.addi c0_i32_1130 v1409
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1131 : BitVec 32 := 4#32
  let v1411 : BitVec 32 := Scalar.muli v5 c4_i32_1131
  let v1412 : BitVec 32 := Scalar.addi v1410 v1411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_1132 : BitVec 32 := 1#32
  let v1413 : BitVec 32 := Scalar.muli v40 c1_i32_1132
  let v1414 : BitVec 32 := Scalar.addi v1412 v1413
  v1414.toNat
def k0_dev63 (d0 : Dev nD) : Nat :=
  let c0_i32_1153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1152 : BitVec 32 := 8#32
  let v1441 : BitVec 32 := Scalar.muli v2 c8_i32_1152
  let v1442 : BitVec 32 := Scalar.addi c0_i32_1153 v1441
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1154 : BitVec 32 := 4#32
  let v1443 : BitVec 32 := Scalar.muli v5 c4_i32_1154
  let v1444 : BitVec 32 := Scalar.addi v1442 v1443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_1155 : BitVec 32 := 1#32
  let v1445 : BitVec 32 := Scalar.muli v43 c1_i32_1155
  let v1446 : BitVec 32 := Scalar.addi v1444 v1445
  v1446.toNat
def k0_off46 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c512_i32_89 : BitVec 32 := 512#32
  let v142 : BitVec 32 := Scalar.muli v35 c512_i32_89
  let v143 : BitVec 32 := Scalar.addi v138 v142
  let c3328_i32_1165 : BitVec 32 := 3328#32
  ![v143.toNat, 3328]
def k0_dev64 (d0 : Dev nD) : Nat :=
  let c0_i32_1162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1161 : BitVec 32 := 8#32
  let v1449 : BitVec 32 := Scalar.muli v2 c8_i32_1161
  let v1450 : BitVec 32 := Scalar.addi c0_i32_1162 v1449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1163 : BitVec 32 := 4#32
  let v1451 : BitVec 32 := Scalar.muli v5 c4_i32_1163
  let v1452 : BitVec 32 := Scalar.addi v1450 v1451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v41 : BitVec 32 := Scalar.addi v8 c2_i32_18
  let c4_i32_19 : BitVec 32 := 4#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v42 : BitVec 32 := Scalar.muli c4_i32_19 v35
  let v43 : BitVec 32 := Scalar.subi v41 v42
  let c1_i32_1164 : BitVec 32 := 1#32
  let v1453 : BitVec 32 := Scalar.muli v43 c1_i32_1164
  let v1454 : BitVec 32 := Scalar.addi v1452 v1453
  v1454.toNat
def k0_dev65 (d0 : Dev nD) : Nat :=
  let c0_i32_1183 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_1182 : BitVec 32 := 8#32
  let v1477 : BitVec 32 := Scalar.muli v36 c8_i32_1182
  let v1478 : BitVec 32 := Scalar.addi c0_i32_1183 v1477
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1184 : BitVec 32 := 4#32
  let v1479 : BitVec 32 := Scalar.muli v5 c4_i32_1184
  let v1480 : BitVec 32 := Scalar.addi v1478 v1479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1185 : BitVec 32 := 1#32
  let v1481 : BitVec 32 := Scalar.muli v8 c1_i32_1185
  let v1482 : BitVec 32 := Scalar.addi v1480 v1481
  v1482.toNat
def k0_off47 (d0 : Dev nD) : Fin 2 → Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_43 : BitVec 32 := 2048#32
  let v72 : BitVec 32 := Scalar.muli v2 c2048_i32_43
  let v73 : BitVec 32 := Scalar.addi c0_i32_44 v72
  let c0_i32_1195 : BitVec 32 := 0#32
  ![v73.toNat, 0]
def k0_dev66 (d0 : Dev nD) : Nat :=
  let c0_i32_1192 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_1191 : BitVec 32 := 8#32
  let v1485 : BitVec 32 := Scalar.muli v36 c8_i32_1191
  let v1486 : BitVec 32 := Scalar.addi c0_i32_1192 v1485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1193 : BitVec 32 := 4#32
  let v1487 : BitVec 32 := Scalar.muli v5 c4_i32_1193
  let v1488 : BitVec 32 := Scalar.addi v1486 v1487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1194 : BitVec 32 := 1#32
  let v1489 : BitVec 32 := Scalar.muli v8 c1_i32_1194
  let v1490 : BitVec 32 := Scalar.addi v1488 v1489
  v1490.toNat
def k0_dev67 (d0 : Dev nD) : Nat :=
  let c0_i32_1212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1211 : BitVec 32 := 8#32
  let v1513 : BitVec 32 := Scalar.muli v2 c8_i32_1211
  let v1514 : BitVec 32 := Scalar.addi c0_i32_1212 v1513
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1213 : BitVec 32 := 4#32
  let v1515 : BitVec 32 := Scalar.muli v37 c4_i32_1213
  let v1516 : BitVec 32 := Scalar.addi v1514 v1515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1214 : BitVec 32 := 1#32
  let v1517 : BitVec 32 := Scalar.muli v8 c1_i32_1214
  let v1518 : BitVec 32 := Scalar.addi v1516 v1517
  v1518.toNat
def k0_off48 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_58 : BitVec 32 := 1024#32
  let v97 : BitVec 32 := Scalar.muli v5 c1024_i32_58
  let v98 : BitVec 32 := Scalar.addi v93 v97
  let c1280_i32_1224 : BitVec 32 := 1280#32
  ![v98.toNat, 1280]
def k0_dev68 (d0 : Dev nD) : Nat :=
  let c0_i32_1221 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1220 : BitVec 32 := 8#32
  let v1521 : BitVec 32 := Scalar.muli v2 c8_i32_1220
  let v1522 : BitVec 32 := Scalar.addi c0_i32_1221 v1521
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1222 : BitVec 32 := 4#32
  let v1523 : BitVec 32 := Scalar.muli v37 c4_i32_1222
  let v1524 : BitVec 32 := Scalar.addi v1522 v1523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1223 : BitVec 32 := 1#32
  let v1525 : BitVec 32 := Scalar.muli v8 c1_i32_1223
  let v1526 : BitVec 32 := Scalar.addi v1524 v1525
  v1526.toNat
def k0_dev69 (d0 : Dev nD) : Nat :=
  let c0_i32_1241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1240 : BitVec 32 := 8#32
  let v1549 : BitVec 32 := Scalar.muli v2 c8_i32_1240
  let v1550 : BitVec 32 := Scalar.addi c0_i32_1241 v1549
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1242 : BitVec 32 := 4#32
  let v1551 : BitVec 32 := Scalar.muli v37 c4_i32_1242
  let v1552 : BitVec 32 := Scalar.addi v1550 v1551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1243 : BitVec 32 := 1#32
  let v1553 : BitVec 32 := Scalar.muli v8 c1_i32_1243
  let v1554 : BitVec 32 := Scalar.addi v1552 v1553
  v1554.toNat
def k0_off49 (d0 : Dev nD) : Fin 2 → Nat :=
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_68 : BitVec 32 := 2048#32
  let v112 : BitVec 32 := Scalar.muli v5 c2048_i32_68
  let v113 : BitVec 32 := Scalar.addi c0_i32_69 v112
  let c2560_i32_1253 : BitVec 32 := 2560#32
  ![v113.toNat, 2560]
def k0_dev70 (d0 : Dev nD) : Nat :=
  let c0_i32_1250 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1249 : BitVec 32 := 8#32
  let v1557 : BitVec 32 := Scalar.muli v2 c8_i32_1249
  let v1558 : BitVec 32 := Scalar.addi c0_i32_1250 v1557
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1251 : BitVec 32 := 4#32
  let v1559 : BitVec 32 := Scalar.muli v37 c4_i32_1251
  let v1560 : BitVec 32 := Scalar.addi v1558 v1559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1252 : BitVec 32 := 1#32
  let v1561 : BitVec 32 := Scalar.muli v8 c1_i32_1252
  let v1562 : BitVec 32 := Scalar.addi v1560 v1561
  v1562.toNat
def k0_dev71 (d0 : Dev nD) : Nat :=
  let c0_i32_1270 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1269 : BitVec 32 := 8#32
  let v1585 : BitVec 32 := Scalar.muli v2 c8_i32_1269
  let v1586 : BitVec 32 := Scalar.addi c0_i32_1270 v1585
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1271 : BitVec 32 := 4#32
  let v1587 : BitVec 32 := Scalar.muli v5 c4_i32_1271
  let v1588 : BitVec 32 := Scalar.addi v1586 v1587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_1272 : BitVec 32 := 1#32
  let v1589 : BitVec 32 := Scalar.muli v40 c1_i32_1272
  let v1590 : BitVec 32 := Scalar.addi v1588 v1589
  v1590.toNat
def k0_off50 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_86 : BitVec 32 := 1024#32
  let v137 : BitVec 32 := Scalar.muli v18 c1024_i32_86
  let v138 : BitVec 32 := Scalar.addi v133 v137
  let c3328_i32_1282 : BitVec 32 := 3328#32
  ![v138.toNat, 3328]
def k0_dev72 (d0 : Dev nD) : Nat :=
  let c0_i32_1279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1278 : BitVec 32 := 8#32
  let v1593 : BitVec 32 := Scalar.muli v2 c8_i32_1278
  let v1594 : BitVec 32 := Scalar.addi c0_i32_1279 v1593
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1280 : BitVec 32 := 4#32
  let v1595 : BitVec 32 := Scalar.muli v5 c4_i32_1280
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v38 : BitVec 32 := Scalar.addi v8 c1_i32_16
  let c2_i32_17 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.muli c2_i32_17 v18
  let v40 : BitVec 32 := Scalar.subi v38 v39
  let c1_i32_1281 : BitVec 32 := 1#32
  let v1597 : BitVec 32 := Scalar.muli v40 c1_i32_1281
  let v1598 : BitVec 32 := Scalar.addi v1596 v1597
  v1598.toNat
def k0_dev73 (d0 : Dev nD) : Nat :=
  let c0_i32_1299 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_1298 : BitVec 32 := 8#32
  let v1621 : BitVec 32 := Scalar.muli v36 c8_i32_1298
  let v1622 : BitVec 32 := Scalar.addi c0_i32_1299 v1621
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1300 : BitVec 32 := 4#32
  let v1623 : BitVec 32 := Scalar.muli v5 c4_i32_1300
  let v1624 : BitVec 32 := Scalar.addi v1622 v1623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1301 : BitVec 32 := 1#32
  let v1625 : BitVec 32 := Scalar.muli v8 c1_i32_1301
  let v1626 : BitVec 32 := Scalar.addi v1624 v1625
  v1626.toNat
def k0_off51 (d0 : Dev nD) : Fin 2 → Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_54 : BitVec 32 := 2048#32
  let v92 : BitVec 32 := Scalar.muli v2 c2048_i32_54
  let v93 : BitVec 32 := Scalar.addi c0_i32_55 v92
  let c1280_i32_1311 : BitVec 32 := 1280#32
  ![v93.toNat, 1280]
def k0_dev74 (d0 : Dev nD) : Nat :=
  let c0_i32_1308 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_1307 : BitVec 32 := 8#32
  let v1629 : BitVec 32 := Scalar.muli v36 c8_i32_1307
  let v1630 : BitVec 32 := Scalar.addi c0_i32_1308 v1629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1309 : BitVec 32 := 4#32
  let v1631 : BitVec 32 := Scalar.muli v5 c4_i32_1309
  let v1632 : BitVec 32 := Scalar.addi v1630 v1631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1310 : BitVec 32 := 1#32
  let v1633 : BitVec 32 := Scalar.muli v8 c1_i32_1310
  let v1634 : BitVec 32 := Scalar.addi v1632 v1633
  v1634.toNat
def k0_dev75 (d0 : Dev nD) : Nat :=
  let c0_i32_1328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1327 : BitVec 32 := 8#32
  let v1657 : BitVec 32 := Scalar.muli v2 c8_i32_1327
  let v1658 : BitVec 32 := Scalar.addi c0_i32_1328 v1657
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1329 : BitVec 32 := 4#32
  let v1659 : BitVec 32 := Scalar.muli v37 c4_i32_1329
  let v1660 : BitVec 32 := Scalar.addi v1658 v1659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1330 : BitVec 32 := 1#32
  let v1661 : BitVec 32 := Scalar.muli v8 c1_i32_1330
  let v1662 : BitVec 32 := Scalar.addi v1660 v1661
  v1662.toNat
def k0_off52 (d0 : Dev nD) : Fin 2 → Nat :=
  let c0_i32_83 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_82 : BitVec 32 := 2048#32
  let v132 : BitVec 32 := Scalar.muli v5 c2048_i32_82
  let v133 : BitVec 32 := Scalar.addi c0_i32_83 v132
  let c3328_i32_1340 : BitVec 32 := 3328#32
  ![v133.toNat, 3328]
def k0_dev76 (d0 : Dev nD) : Nat :=
  let c0_i32_1337 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1336 : BitVec 32 := 8#32
  let v1665 : BitVec 32 := Scalar.muli v2 c8_i32_1336
  let v1666 : BitVec 32 := Scalar.addi c0_i32_1337 v1665
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_1338 : BitVec 32 := 4#32
  let v1667 : BitVec 32 := Scalar.muli v37 c4_i32_1338
  let v1668 : BitVec 32 := Scalar.addi v1666 v1667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1339 : BitVec 32 := 1#32
  let v1669 : BitVec 32 := Scalar.muli v8 c1_i32_1339
  let v1670 : BitVec 32 := Scalar.addi v1668 v1669
  v1670.toNat
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x4096, .f32⟩
  | .hbm, ⟨3, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
module

public import proofs.«01_k».proof.Proof.Gen.KernelIdeal.Skeleton

@[expose] public section

noncomputable section

namespace Cert.KernelIdeal.Own

open Idealize.ShloMosaic Idealize.ShloMosaic.TcCoe
open Idealize.SL.Sem
open Cert.KernelIdeal Cert.KernelIdeal.Gen

variable {F : FTy → Type} [FloatOps F]

/-! The kernel's body as forty blocks of one shape.

The columns of the result are dealt to four flows.  Each flow runs nine transfers: the first five carry partial sums
towards the device that owns a block of rows, the last four spread the finished rows again.  A block finishes one
transfer of a flow (its waits and its addition) and issues the next. -/

/-- The four flows, each a range of columns. -/
inductive Fl | f0 | f1 | f2 | f3
  deriving DecidableEq

instance : Fintype Fl := ⟨{.f0, .f1, .f2, .f3}, by intro x; cases x <;> decide⟩

/-- The nine transfers of a flow. -/
inductive St | s0 | s1 | s2 | s3 | s4 | s5 | s6 | s7 | s8
  deriving DecidableEq

instance : Fintype St := ⟨{.s0, .s1, .s2, .s3, .s4, .s5, .s6, .s7, .s8}, by intro x; cases x <;> decide⟩

/-- How many columns a flow has. -/
def cw : Fl → Nat
  | .f0 => 1280 | .f1 => 1280 | .f2 => 768 | .f3 => 768

/-- A flow's first column. -/
def c0 : Fl → Nat
  | .f0 => 0 | .f1 => 1280 | .f2 => 2560 | .f3 => 3328

/-- How many rows a transfer moves. -/
def nr : St → Nat
  | .s0 => 1024 | .s1 => 1024 | .s2 => 1024 | .s3 => 512 | .s4 => 256 | .s5 => 256 | .s6 => 512 | .s7 => 1024 | .s8 => 2048

/-- A flow's number. -/
def fi : Fl → Nat
  | .f0 => 0 | .f1 => 1 | .f2 => 2 | .f3 => 3

/-- A transfer's number within its flow. -/
def si : St → Nat
  | .s0 => 0 | .s1 => 1 | .s2 => 2 | .s3 => 3 | .s4 => 4 | .s5 => 5 | .s6 => 6 | .s7 => 7 | .s8 => 8

theorem fi_lt (f : Fl) : fi f < 4 := by cases f <;> decide
theorem si_lt (w : St) : si w < 9 := by cases w <;> decide

/-- A transfer's number among all thirty-six. -/
def tid (f : Fl) (w : St) : Fin 36 := ⟨9 * fi f + si w, by have := fi_lt f; have := si_lt w; omega⟩

/-- The semaphore on which a device learns that its partner is ready for a transfer. -/
def rdS (f : Fl) (w : St) : Sem sig := ⟨(tid f w).val, by have := (tid f w).isLt; show _ < 37; omega⟩
/-- The semaphore credited when a transfer has been read. -/
def sdS (f : Fl) (w : St) : DmaSem sig := ⟨(tid f w).val, by have := (tid f w).isLt; show _ < 84; omega⟩
/-- The semaphore credited when a transfer has landed. -/
def rvS (f : Fl) (w : St) : DmaSem sig := ⟨36 + (tid f w).val, by have := (tid f w).isLt; show _ < 84; omega⟩
/-- The semaphores of a flow's three local copies. -/
def lcS (f : Fl) (s : Fin 3) : DmaSem sig := ⟨72 + (3 * fi f + s.val), by have := fi_lt f; have := s.isLt; show _ < 84; omega⟩
/-- The semaphore of the meeting at the start. -/
def brS : Sem sig := sig.barrier 0 rfl

/-- The buffers: the local product, the result, the accumulator and the landing area. -/
inductive Bf | p | o | acc | recv
  deriving DecidableEq

/-- A buffer's memory space. -/
abbrev bsp : Bf → Space
  | .p => .hbm | .o => .hbm | .acc => .vmem | .recv => .vmem

/-- How many rows a buffer has. -/
abbrev brows : Bf → Nat
  | .p => 4096 | .o => 4096 | .acc => 2048 | .recv => 1024

/-- A whole buffer. -/
abbrev mem : (b : Bf) → Memref sig .tc (bsp b) ⟨2, ![brows b, 4096]⟩ .f32
  | .p => Memref.whole main_v21
  | .o => Memref.whole main_v22
  | .acc => Memref.whole cc0_scratch0
  | .recv => Memref.whole cc0_scratch1

/-- A block's bounds. -/
abbrev Inb (b : Bf) (off : Fin 2 → Nat) (n w : Nat) : Prop :=
  ∀ a, off a + (⟨2, ![n, w]⟩ : Shape).size a ≤ (⟨2, ![brows b, 4096]⟩ : Shape).size a

/-- A block of a buffer: `n` rows and `w` columns from `off`. -/
abbrev sl (b : Bf) (off : Fin 2 → Nat) (n w : Nat) (h : Inb b off n w) : Memref sig .tc (bsp b) ⟨2, ![n, w]⟩ .f32 :=
  (mem b).slice (Rect.unit (s := ⟨2, ![brows b, 4096]⟩) off (⟨2, ![n, w]⟩ : Shape).size h) (fun _ => rfl)

/-- The device a transfer's readiness signal is addressed to. -/
def devS : Fl → St → Dev nD → Nat
  | .f0, .s0, d0 => k0_dev5 d0
  | .f0, .s1, d0 => k0_dev9 d0
  | .f0, .s2, d0 => k0_dev17 d0
  | .f0, .s3, d0 => k0_dev25 d0
  | .f0, .s4, d0 => k0_dev33 d0
  | .f0, .s5, d0 => k0_dev41 d0
  | .f0, .s6, d0 => k0_dev49 d0
  | .f0, .s7, d0 => k0_dev57 d0
  | .f0, .s8, d0 => k0_dev65 d0
  | .f1, .s0, d0 => k0_dev11 d0
  | .f1, .s1, d0 => k0_dev19 d0
  | .f1, .s2, d0 => k0_dev27 d0
  | .f1, .s3, d0 => k0_dev35 d0
  | .f1, .s4, d0 => k0_dev43 d0
  | .f1, .s5, d0 => k0_dev51 d0
  | .f1, .s6, d0 => k0_dev59 d0
  | .f1, .s7, d0 => k0_dev67 d0
  | .f1, .s8, d0 => k0_dev73 d0
  | .f2, .s0, d0 => k0_dev7 d0
  | .f2, .s1, d0 => k0_dev13 d0
  | .f2, .s2, d0 => k0_dev21 d0
  | .f2, .s3, d0 => k0_dev29 d0
  | .f2, .s4, d0 => k0_dev37 d0
  | .f2, .s5, d0 => k0_dev45 d0
  | .f2, .s6, d0 => k0_dev53 d0
  | .f2, .s7, d0 => k0_dev61 d0
  | .f2, .s8, d0 => k0_dev69 d0
  | .f3, .s0, d0 => k0_dev15 d0
  | .f3, .s1, d0 => k0_dev23 d0
  | .f3, .s2, d0 => k0_dev31 d0
  | .f3, .s3, d0 => k0_dev39 d0
  | .f3, .s4, d0 => k0_dev47 d0
  | .f3, .s5, d0 => k0_dev55 d0
  | .f3, .s6, d0 => k0_dev63 d0
  | .f3, .s7, d0 => k0_dev71 d0
  | .f3, .s8, d0 => k0_dev75 d0

/-- The device a transfer is addressed to. -/
def devR : Fl → St → Dev nD → Nat
  | .f0, .s0, d0 => k0_dev6 d0
  | .f0, .s1, d0 => k0_dev10 d0
  | .f0, .s2, d0 => k0_dev18 d0
  | .f0, .s3, d0 => k0_dev26 d0
  | .f0, .s4, d0 => k0_dev34 d0
  | .f0, .s5, d0 => k0_dev42 d0
  | .f0, .s6, d0 => k0_dev50 d0
  | .f0, .s7, d0 => k0_dev58 d0
  | .f0, .s8, d0 => k0_dev66 d0
  | .f1, .s0, d0 => k0_dev12 d0
  | .f1, .s1, d0 => k0_dev20 d0
  | .f1, .s2, d0 => k0_dev28 d0
  | .f1, .s3, d0 => k0_dev36 d0
  | .f1, .s4, d0 => k0_dev44 d0
  | .f1, .s5, d0 => k0_dev52 d0
  | .f1, .s6, d0 => k0_dev60 d0
  | .f1, .s7, d0 => k0_dev68 d0
  | .f1, .s8, d0 => k0_dev74 d0
  | .f2, .s0, d0 => k0_dev8 d0
  | .f2, .s1, d0 => k0_dev14 d0
  | .f2, .s2, d0 => k0_dev22 d0
  | .f2, .s3, d0 => k0_dev30 d0
  | .f2, .s4, d0 => k0_dev38 d0
  | .f2, .s5, d0 => k0_dev46 d0
  | .f2, .s6, d0 => k0_dev54 d0
  | .f2, .s7, d0 => k0_dev62 d0
  | .f2, .s8, d0 => k0_dev70 d0
  | .f3, .s0, d0 => k0_dev16 d0
  | .f3, .s1, d0 => k0_dev24 d0
  | .f3, .s2, d0 => k0_dev32 d0
  | .f3, .s3, d0 => k0_dev40 d0
  | .f3, .s4, d0 => k0_dev48 d0
  | .f3, .s5, d0 => k0_dev56 d0
  | .f3, .s6, d0 => k0_dev64 d0
  | .f3, .s7, d0 => k0_dev72 d0
  | .f3, .s8, d0 => k0_dev76 d0

/-- Where a transfer's source block begins. -/
def srcOff : Fl → St → Dev nD → Fin 2 → Nat
  | .f0, .s0, d0 => k0_off2 d0 0#32
  | .f0, .s1, d0 => k0_off2 d0 1024#32
  | .f0, .s2, d0 => k0_off9 d0
  | .f0, .s3, d0 => k0_off12 d0
  | .f0, .s4, d0 => k0_off18 d0
  | .f0, .s5, d0 => k0_off27 d0
  | .f0, .s6, d0 => k0_off35 d0
  | .f0, .s7, d0 => k0_off43 d0
  | .f0, .s8, d0 => k0_off47 d0
  | .f1, .s0, d0 => k0_off6 d0 0#32
  | .f1, .s1, d0 => k0_off6 d0 1024#32
  | .f1, .s2, d0 => k0_off13 d0
  | .f1, .s3, d0 => k0_off20 d0
  | .f1, .s4, d0 => k0_off29 d0
  | .f1, .s5, d0 => k0_off38 d0
  | .f1, .s6, d0 => k0_off44 d0
  | .f1, .s7, d0 => k0_off48 d0
  | .f1, .s8, d0 => k0_off51 d0
  | .f2, .s0, d0 => k0_off4 d0 0#32
  | .f2, .s1, d0 => k0_off4 d0 1024#32
  | .f2, .s2, d0 => k0_off10 d0
  | .f2, .s3, d0 => k0_off15 d0
  | .f2, .s4, d0 => k0_off22 d0
  | .f2, .s5, d0 => k0_off32 d0
  | .f2, .s6, d0 => k0_off39 d0
  | .f2, .s7, d0 => k0_off45 d0
  | .f2, .s8, d0 => k0_off49 d0
  | .f3, .s0, d0 => k0_off8 d0 0#32
  | .f3, .s1, d0 => k0_off8 d0 1024#32
  | .f3, .s2, d0 => k0_off16 d0
  | .f3, .s3, d0 => k0_off24 d0
  | .f3, .s4, d0 => k0_off34 d0
  | .f3, .s5, d0 => k0_off42 d0
  | .f3, .s6, d0 => k0_off46 d0
  | .f3, .s7, d0 => k0_off50 d0
  | .f3, .s8, d0 => k0_off52 d0

/-- Where a transfer's destination block begins. -/
def dstOff : Fl → St → Dev nD → Fin 2 → Nat
  | .f0, .s0, d0 => ![0, 0]
  | .f0, .s1, d0 => ![0, 0]
  | .f0, .s2, d0 => ![0, 0]
  | .f0, .s3, d0 => ![0, 0]
  | .f0, .s4, d0 => ![0, 0]
  | .f0, .s5, d0 => k0_off26 d0
  | .f0, .s6, d0 => k0_off35 d0
  | .f0, .s7, d0 => k0_off43 d0
  | .f0, .s8, d0 => k0_off47 d0
  | .f1, .s0, d0 => ![0, 1280]
  | .f1, .s1, d0 => ![0, 1280]
  | .f1, .s2, d0 => ![0, 1280]
  | .f1, .s3, d0 => ![0, 1280]
  | .f1, .s4, d0 => ![0, 1280]
  | .f1, .s5, d0 => k0_off37 d0
  | .f1, .s6, d0 => k0_off44 d0
  | .f1, .s7, d0 => k0_off48 d0
  | .f1, .s8, d0 => k0_off51 d0
  | .f2, .s0, d0 => ![0, 2560]
  | .f2, .s1, d0 => ![0, 2560]
  | .f2, .s2, d0 => ![0, 2560]
  | .f2, .s3, d0 => ![0, 2560]
  | .f2, .s4, d0 => ![0, 2560]
  | .f2, .s5, d0 => k0_off31 d0
  | .f2, .s6, d0 => k0_off39 d0
  | .f2, .s7, d0 => k0_off45 d0
  | .f2, .s8, d0 => k0_off49 d0
  | .f3, .s0, d0 => ![0, 3328]
  | .f3, .s1, d0 => ![0, 3328]
  | .f3, .s2, d0 => ![0, 3328]
  | .f3, .s3, d0 => ![0, 3328]
  | .f3, .s4, d0 => ![0, 3328]
  | .f3, .s5, d0 => k0_off41 d0
  | .f3, .s6, d0 => k0_off46 d0
  | .f3, .s7, d0 => k0_off50 d0
  | .f3, .s8, d0 => k0_off52 d0

/-- Where the block of the accumulator that takes a transfer's sum begins. -/
def addOff : Fl → St → Dev nD → Fin 2 → Nat
  | .f0, .s0, d0 => ![0, 0]
  | .f0, .s1, d0 => ![1024, 0]
  | .f0, .s2, d0 => k0_off11 d0
  | .f0, .s3, d0 => k0_off17 d0
  | .f0, .s4, d0 => k0_off25 d0
  | .f1, .s0, d0 => ![0, 1280]
  | .f1, .s1, d0 => ![1024, 1280]
  | .f1, .s2, d0 => k0_off19 d0
  | .f1, .s3, d0 => k0_off28 d0
  | .f1, .s4, d0 => k0_off36 d0
  | .f2, .s0, d0 => ![0, 2560]
  | .f2, .s1, d0 => ![1024, 2560]
  | .f2, .s2, d0 => k0_off14 d0
  | .f2, .s3, d0 => k0_off21 d0
  | .f2, .s4, d0 => k0_off30 d0
  | .f3, .s0, d0 => ![0, 3328]
  | .f3, .s1, d0 => ![1024, 3328]
  | .f3, .s2, d0 => k0_off23 d0
  | .f3, .s3, d0 => k0_off33 d0
  | .f3, .s4, d0 => k0_off40 d0
  | _, _, _ => ![0, 0]

/-- Where the two blocks copied from the product to the accumulator begin. -/
def locOff : Fl → Bool → Dev nD → Fin 2 → Nat
  | .f0, false, d0 => k0_off1 d0 0#32
  | .f0, true, d0 => k0_off1 d0 1024#32
  | .f1, false, d0 => k0_off5 d0 0#32
  | .f1, true, d0 => k0_off5 d0 1024#32
  | .f2, false, d0 => k0_off3 d0 0#32
  | .f2, true, d0 => k0_off3 d0 1024#32
  | .f3, false, d0 => k0_off7 d0 0#32
  | .f3, true, d0 => k0_off7 d0 1024#32

/-- The buffer a transfer reads. -/
abbrev srcB : St → Bf
  | .s0 => .p | .s1 => .p | .s2 => .acc | .s3 => .acc | .s4 => .acc | .s5 => .acc | .s6 => .o | .s7 => .o | .s8 => .o

/-- The buffer a transfer writes. -/
abbrev dstB : St → Bf
  | .s0 => .recv | .s1 => .recv | .s2 => .recv | .s3 => .recv | .s4 => .recv | .s5 => .o | .s6 => .o | .s7 => .o | .s8 => .o

theorem devS_lt (f : Fl) (w : St) (d0 : Dev nD) : devS f w d0 < nD := by
  revert d0; revert w; revert f; decide +kernel
theorem devR_lt (f : Fl) (w : St) (d0 : Dev nD) : devR f w d0 < nD := by
  revert d0; revert w; revert f; decide +kernel
theorem src_inb (f : Fl) (w : St) (d0 : Dev nD) : Inb (srcB w) (srcOff f w d0) (nr w) (cw f) := by
  revert d0; revert w; revert f; decide +kernel
theorem dst_inb (f : Fl) (w : St) (d0 : Dev nD) : Inb (dstB w) (dstOff f w d0) (nr w) (cw f) := by
  revert d0; revert w; revert f; decide +kernel
theorem loc_inb (f : Fl) (s : Bool) (d0 : Dev nD) : Inb .p (locOff f s d0) 1024 (cw f) := by
  revert d0; revert s; revert f; decide +kernel
/-- Where the two blocks land in the accumulator. -/
def lacOff (f : Fl) : Bool → Fin 2 → Nat
  | false => ![0, c0 f]
  | true => ![1024, c0 f]
theorem lac_inb (f : Fl) (s : Bool) : Inb .acc (lacOff f s) 1024 (cw f) := by
  revert s; revert f; decide +kernel

/-- A program of the kernel's thread. -/
abbrev PG (F : FTy → Type) := Prog (TpuEff nD τ sig (Elt F) Λ₀ .tc) PUnit

/-- A copy within the device. -/
abbrev locCopy (b b' : Bf) (off off' : Fin 2 → Nat) (n w : Nat) (h : Inb b off n w) (h' : Inb b' off' n w)
    (s : DmaSem sig) (k : PG F) : PG F :=
  .op (.enqueueDma (sl b off n w h) (.here (sl b' off' n w h')) (.dma s)
    (View.wordExact_bits (by cases b <;> rfl)) (View.wordExact_bits (by cases b' <;> rfl)) ⟨Or.inl rfl, by cases b <;> cases b' <;> trivial⟩) fun _ => k

/-- Tell the partner, hear from it, and send. -/
def issueR (f : Fl) (w : St) (d0 : Dev nD) (k : PG F) : PG F :=
  .op (.semSignal ((⟨devS f w d0, devS_lt f w d0⟩ : Dev nD), .tc) (rdS f w) ((1 : ℕ) : ℤ)) fun _ =>
  .op (.semWait (rdS f w) ((1 : ℕ) : ℤ)) fun _ =>
  .op (.enqueueDma (sl (srcB w) (srcOff f w d0) (nr w) (cw f) (src_inb f w d0))
    (.remote (Dev.tc (⟨devR f w d0, devR_lt f w d0⟩ : Dev nD)) (sl (dstB w) (dstOff f w d0) (nr w) (cw f) (dst_inb f w d0)) (.dma (sdS f w)))
    (.dma (rvS f w)) (View.wordExact_bits (by cases w <;> rfl)) (View.wordExact_bits (by cases w <;> rfl))
    ⟨⟨rfl, Or.inl rfl⟩, by cases w <;> trivial⟩) fun _ => k

/-- Wait for a transfer of one's own to have been read and for the partner's to have landed. -/
def waits (f : Fl) (w : St) (d0 : Dev nD) (k : PG F) : PG F :=
  .op (.waitDma2 (sdS f w) (sl (dstB w) (dstOff f w d0) (nr w) (cw f) (dst_inb f w d0))
    (sl (srcB w) (srcOff f w d0) (nr w) (cw f) (src_inb f w d0)) (View.wordExact_bits (by cases w <;> rfl)) (View.wordExact_bits (by cases w <;> rfl))) fun _ =>
  .op (.waitDma2 (rvS f w) (sl (srcB w) (srcOff f w d0) (nr w) (cw f) (src_inb f w d0))
    (sl (dstB w) (dstOff f w d0) (nr w) (cw f) (dst_inb f w d0)) (View.wordExact_bits (by cases w <;> rfl)) (View.wordExact_bits (by cases w <;> rfl))) fun _ => k

/-- Wait for a copy within the device. -/
abbrev locWait (b b' : Bf) (off off' : Fin 2 → Nat) (n w : Nat) (h : Inb b off n w) (h' : Inb b' off' n w)
    (s : DmaSem sig) (k : PG F) : PG F :=
  .op (.waitDma2 s (sl b off n w h) (sl b' off' n w h')
    (View.wordExact_bits (by cases b <;> rfl)) (View.wordExact_bits (by cases b' <;> rfl))) fun _ => k

theorem numel_pos (f : Fl) (w : St) : 0 < (⟨2, ![nr w, cw f]⟩ : Shape).numel := by
  cases f <;> cases w <;> decide

theorem add_inb (f : Fl) (w : St) (d0 : Dev nD) : Inb .acc (addOff f w d0) (nr w) (cw f) := by
  revert d0; revert w; revert f; decide +kernel

/-- A block's rectangle in a whole buffer. -/
abbrev rct (b : Bf) (off : Fin 2 → Nat) (n w : Nat) (h : Inb b off n w) : Rect (⟨2, ![brows b, 4096]⟩ : Shape) :=
  Rect.unit (s := ⟨2, ![brows b, 4096]⟩) off (⟨2, ![n, w]⟩ : Shape).size h

/-- Add a block of the landing area onto a block of the accumulator. -/
def addB (off offr : Fin 2 → Nat) (n w : Nat) (h : Inb .acc off n w) (h' : Inb .recv offr n w)
    (hn : 0 < (⟨2, ![n, w]⟩ : Shape).numel) (k : PG F) : PG F :=
  .op (.load (cs := .vmem) (e := .f32) (Memref.whole cc0_scratch0) (rct .acc off n w h).toLoadRect (View.loadsAt_vmem hn)) fun v =>
  .op (.load (cs := .vmem) (e := .f32) (Memref.whole cc0_scratch1) (rct .recv offr n w h').toLoadRect (View.loadsAt_vmem hn)) fun v' =>
  .op (.load (cs := .vmem) (e := .f32) (Memref.whole cc0_scratch0) (rct .acc off n w h).toLoadRect (View.loadsAt_vmem hn)) fun _ =>
  .op (.store (cs := .vmem) (e := .f32) (Memref.whole cc0_scratch0) (rct .acc off n w h)
    (shapeCast (⟨2, ![n, w]⟩ : Shape) (addf (s := (⟨2, ![n, w]⟩ : Shape)) (φ := .f32) v v') rfl) Finset.univ
    (View.stores_vmem_bits_univ hn rfl) (.inl rfl)) fun _ => k

/-- The two copies of the product's own half into the accumulator. -/
def locIn (f : Fl) (d0 : Dev nD) (k : PG F) : PG F :=
  locCopy .p .acc (locOff f false d0) (lacOff f false) 1024 (cw f) (loc_inb f false d0) (lac_inb f false) (lcS f 0)
    (locCopy .p .acc (locOff f true d0) (lacOff f true) 1024 (cw f) (loc_inb f true d0) (lac_inb f true) (lcS f 1) k)

/-- Issue a transfer. -/
def issue (f : Fl) (d0 : Dev nD) : St → PG F → PG F
  | .s0, k => locIn f d0 (issueR f .s0 d0 k)
  | .s1, k => issueR f .s1 d0 k
  | .s2, k => issueR f .s2 d0 k
  | .s3, k => issueR f .s3 d0 k
  | .s4, k => issueR f .s4 d0 k
  | .s5, k => locCopy .acc .o (srcOff f .s5 d0) (dstOff f .s5 d0) (nr .s5) (cw f) (src_inb f .s5 d0) (dst_inb f .s5 d0) (lcS f 2)
      (issueR f .s5 d0 k)
  | .s6, k => issueR f .s6 d0 k
  | .s7, k => issueR f .s7 d0 k
  | .s8, k => issueR f .s8 d0 k

/-- Finish a transfer. -/
def fin (f : Fl) (d0 : Dev nD) : St → PG F → PG F
  | .s0, k => waits f .s0 d0 (locWait .p .acc (locOff f false d0) (lacOff f false) 1024 (cw f) (loc_inb f false d0) (lac_inb f false) (lcS f 0)
      (addB (addOff f .s0 d0) (dstOff f .s0 d0) (nr .s0) (cw f) (add_inb f .s0 d0) (dst_inb f .s0 d0) (numel_pos f .s0) k))
  | .s1, k => waits f .s1 d0 (locWait .p .acc (locOff f true d0) (lacOff f true) 1024 (cw f) (loc_inb f true d0) (lac_inb f true) (lcS f 1)
      (addB (addOff f .s1 d0) (dstOff f .s1 d0) (nr .s1) (cw f) (add_inb f .s1 d0) (dst_inb f .s1 d0) (numel_pos f .s1) k))
  | .s2, k => waits f .s2 d0 (addB (addOff f .s2 d0) (dstOff f .s2 d0) (nr .s2) (cw f) (add_inb f .s2 d0) (dst_inb f .s2 d0) (numel_pos f .s2) k)
  | .s3, k => waits f .s3 d0 (addB (addOff f .s3 d0) (dstOff f .s3 d0) (nr .s3) (cw f) (add_inb f .s3 d0) (dst_inb f .s3 d0) (numel_pos f .s3) k)
  | .s4, k => waits f .s4 d0 (addB (addOff f .s4 d0) (dstOff f .s4 d0) (nr .s4) (cw f) (add_inb f .s4 d0) (dst_inb f .s4 d0) (numel_pos f .s4) k)
  | .s5, k => waits f .s5 d0 (locWait .acc .o (srcOff f .s5 d0) (dstOff f .s5 d0) (nr .s5) (cw f) (src_inb f .s5 d0) (dst_inb f .s5 d0) (lcS f 2) k)
  | .s6, k => waits f .s6 d0 k
  | .s7, k => waits f .s7 d0 k
  | .s8, k => waits f .s8 d0 k

/-- The transfer before. -/
def prv : St → St
  | .s0 => .s0 | .s1 => .s0 | .s2 => .s1 | .s3 => .s2 | .s4 => .s3 | .s5 => .s4 | .s6 => .s5 | .s7 => .s6 | .s8 => .s7

/-- One block: the flow's running transfer is finished and its next one issued. -/
def block (f : Fl) (d0 : Dev nD) : St → PG F → PG F
  | .s0, k => issue f d0 .s0 k
  | w, k => fin f d0 (prv w) (issue f d0 w k)

/-- The order of the first thirty-six blocks. -/
def order : List (Fl × St) :=
  [(.f0, .s0), (.f2, .s0),
   (.f0, .s1), (.f1, .s0), (.f2, .s1), (.f3, .s0),
   (.f0, .s2), (.f1, .s1), (.f2, .s2), (.f3, .s1),
   (.f0, .s3), (.f1, .s2), (.f2, .s3), (.f3, .s2),
   (.f0, .s4), (.f1, .s3), (.f2, .s4), (.f3, .s3),
   (.f0, .s5), (.f1, .s4), (.f2, .s5), (.f3, .s4),
   (.f0, .s6), (.f1, .s5), (.f2, .s6), (.f3, .s5),
   (.f0, .s7), (.f1, .s6), (.f2, .s7), (.f3, .s6),
   (.f0, .s8), (.f1, .s7), (.f2, .s8), (.f3, .s7),
   (.f1, .s8), (.f3, .s8)]

/-- Blocks, one after another. -/
def blocks (d0 : Dev nD) (k : PG F) : List (Fl × St) → PG F
  | [] => k
  | (f, w) :: l => block f d0 w (blocks d0 k l)

/-- The meeting at the start: a signal to each of the four partners, and a wait for all four. -/
def meet (d0 : Dev nD) (k : PG F) : PG F :=
  .op (.semSignal ((⟨k0_dev1 d0, k0_dev1_lt d0⟩ : Dev nD), .tc) brS ((1 : ℕ) : ℤ)) fun _ =>
  .op (.semSignal ((⟨k0_dev2 d0, k0_dev2_lt d0⟩ : Dev nD), .tc) brS ((1 : ℕ) : ℤ)) fun _ =>
  .op (.semSignal ((⟨k0_dev3 d0, k0_dev3_lt d0⟩ : Dev nD), .tc) brS ((1 : ℕ) : ℤ)) fun _ =>
  .op (.semSignal ((⟨k0_dev4 d0, k0_dev4_lt d0⟩ : Dev nD), .tc) brS ((1 : ℕ) : ℤ)) fun _ =>
  .op (.semWait brS ((4 : ℕ) : ℤ)) fun _ => k

/-- The whole body. -/
def body : PG F :=
  .op .deviceId fun d0 => meet d0 (blocks d0
    (fin .f0 d0 .s8 (fin .f1 d0 .s8 (fin .f2 d0 .s8 (fin .f3 d0 .s8 (.ret PUnit.unit))))) order)

end Cert.KernelIdeal.Own
-- ==== Proof.Tables.lean ====
module

public import proofs.«01_k».proof.Proof.Prog

@[expose] public section

noncomputable section

namespace Cert.KernelIdeal.Own

open Idealize.ShloMosaic Idealize.ShloMosaic.TcCoe
open Cert.KernelIdeal Cert.KernelIdeal.Gen

/-! The kernel's tables of devices and offsets in closed form.

The sixteen devices are numbered by four bits.  A transfer goes to the device that differs in one of them, and the rows
a device holds partial sums of are halved by one bit after another. -/

/-- The four directions: the bits of a device's number. -/
inductive Dr | x | y | z1 | z2
  deriving DecidableEq

instance : Fintype Dr := ⟨{.x, .y, .z1, .z2}, by intro d; cases d <;> decide⟩

/-- A direction's weight. -/
def wt : Dr → Nat
  | .x => 8 | .y => 4 | .z1 => 1 | .z2 => 2

/-- A device's bit. -/
def bit (d : Dr) (c : Dev nD) : Nat := c.val / wt d % 2

/-- The device across one direction. -/
def par (d : Dr) (c : Dev nD) : Dev nD :=
  ⟨(c.val + wt d - 2 * (wt d * bit d c)) % nD, Nat.mod_lt _ (by decide)⟩

theorem par_par (d : Dr) (c : Dev nD) : par d (par d c) = c := by revert c; revert d; decide +kernel
theorem bit_lt (d : Dr) (c : Dev nD) : bit d c < 2 := Nat.mod_lt _ (by decide)

/-- The direction by which a flow halves its rows at each of the four steps. -/
def ord : Fl → Nat → Dr
  | .f0, 0 => .x | .f0, 1 => .y | .f0, 2 => .z1 | .f0, _ => .z2
  | .f1, 0 => .x | .f1, 1 => .y | .f1, 2 => .z1 | .f1, _ => .z2
  | .f2, 0 => .y | .f2, 1 => .z1 | .f2, 2 => .z2 | .f2, _ => .x
  | .f3, 0 => .y | .f3, 1 => .z1 | .f3, 2 => .z2 | .f3, _ => .x

/-- How many rows are left after each halving. -/
def half : Nat → Nat
  | 0 => 2048 | 1 => 1024 | 2 => 512 | _ => 256

/-- The first of the rows a device keeps after `j` halvings. -/
def kr (f : Fl) (c : Dev nD) : Nat → Nat
  | 0 => 0
  | j + 1 => kr f c j + bit (ord f j) c * half j

/-- The first of the rows a device gives away at halving `j`. -/
def gr (f : Fl) (c : Dev nD) (j : Nat) : Nat := kr f c j + (1 - bit (ord f j) c) * half j

/-- A transfer's direction. -/
def dir (f : Fl) : St → Dr
  | .s0 => ord f 0 | .s1 => ord f 0 | .s2 => ord f 1 | .s3 => ord f 2 | .s4 => ord f 3
  | .s5 => ord f 3 | .s6 => ord f 2 | .s7 => ord f 1 | .s8 => ord f 0

/-- A transfer's partner. -/
abbrev pt (f : Fl) (w : St) (c : Dev nD) : Dev nD := par (dir f w) c

/-- The first row a transfer reads, within its buffer. -/
def srow (f : Fl) (c : Dev nD) : St → Nat
  | .s0 => gr f c 0 | .s1 => gr f c 0 + 1024 | .s2 => gr f c 1 - kr f c 1 | .s3 => gr f c 2 - kr f c 1
  | .s4 => gr f c 3 - kr f c 1 | .s5 => kr f c 4 - kr f c 1 | .s6 => kr f c 3 | .s7 => kr f c 2 | .s8 => kr f c 1

/-- The first row a transfer writes, within its buffer. -/
def drow (f : Fl) (c : Dev nD) : St → Nat
  | .s5 => kr f c 4 | .s6 => kr f c 3 | .s7 => kr f c 2 | .s8 => kr f c 1 | _ => 0

/-- The first row of the accumulator a transfer's sum goes to. -/
def arow (f : Fl) (c : Dev nD) : St → Nat
  | .s1 => 1024 | .s2 => kr f c 2 - kr f c 1 | .s3 => kr f c 3 - kr f c 1 | .s4 => kr f c 4 - kr f c 1 | _ => 0

/-- The row of the result that row 0 of a transfer's source buffer stands for. -/
def sbase (f : Fl) (c : Dev nD) : St → Nat
  | .s2 => kr f c 1 | .s3 => kr f c 1 | .s4 => kr f c 1 | .s5 => kr f c 1 | _ => 0

/-- The row of the result that row 0 of a transfer's destination buffer stands for, the sender being `c`. -/
def dbase (f : Fl) (c : Dev nD) : St → Nat
  | .s0 => gr f c 0 | .s1 => gr f c 0 + 1024 | .s2 => gr f c 1 | .s3 => gr f c 2 | .s4 => gr f c 3 | _ => 0

theorem devS_eq (f : Fl) (w : St) (c : Dev nD) : (⟨devS f w c, devS_lt f w c⟩ : Dev nD) = pt f w c := by
  revert c; revert w; revert f; decide +kernel
theorem devR_eq (f : Fl) (w : St) (c : Dev nD) : (⟨devR f w c, devR_lt f w c⟩ : Dev nD) = pt f w c := by
  revert c; revert w; revert f; decide +kernel
theorem srcOff_eq (f : Fl) (w : St) (c : Dev nD) : srcOff f w c = ![srow f c w, c0 f] := by
  revert c; revert w; revert f; decide +kernel
theorem dstOff_eq (f : Fl) (w : St) (c : Dev nD) : dstOff f w c = ![drow f c w, c0 f] := by
  revert c; revert w; revert f; decide +kernel
theorem addOff_eq (f : Fl) (w : St) (hw : si w < 5) (c : Dev nD) : addOff f w c = ![arow f c w, c0 f] := by
  revert c; revert hw; revert w; revert f; decide +kernel
theorem locOff_eq (f : Fl) (s : Bool) (c : Dev nD) : locOff f s c = ![kr f c 1 + (if s then 1024 else 0), c0 f] := by
  revert c; revert s; revert f; decide +kernel
theorem lacOff_eq (f : Fl) (s : Bool) : lacOff f s = ![(if s then 1024 else 0), c0 f] := by
  revert s; revert f; decide +kernel

theorem dev1_eq (c : Dev nD) : (⟨k0_dev1 c, k0_dev1_lt c⟩ : Dev nD) = par .x c := by revert c; decide +kernel
theorem dev2_eq (c : Dev nD) : (⟨k0_dev2 c, k0_dev2_lt c⟩ : Dev nD) = par .y c := by revert c; decide +kernel
theorem dev3_eq (c : Dev nD) : (⟨k0_dev3 c, k0_dev3_lt c⟩ : Dev nD) = par .z1 c := by revert c; decide +kernel
theorem dev4_eq (c : Dev nD) : (⟨k0_dev4 c, k0_dev4_lt c⟩ : Dev nD) = par .z2 c := by revert c; decide +kernel

/-- The row a transfer reads and the row it writes stand for the same row of the result. -/
theorem rows_match (f : Fl) (w : St) (c : Dev nD) : sbase f c w + srow f c w = dbase f c w + drow f c w := by
  revert c; revert w; revert f; decide +kernel

/-- The device that finishes the block of 256 rows numbered `q` in a flow. -/
def own (f : Fl) (q : Nat) : Dev nD :=
  ⟨(q / 8 % 2 * wt (ord f 0) + q / 4 % 2 * wt (ord f 1) + q / 2 % 2 * wt (ord f 2) + q % 2 * wt (ord f 3)) % nD, Nat.mod_lt _ (by decide)⟩

theorem own_kr (f : Fl) (c : Dev nD) : own f (kr f c 4 / 256) = c ∧ kr f c 4 % 256 = 0 := by
  revert c; revert f; decide +kernel

/-- The device across a halving's direction agrees on the rows kept so far. -/
theorem kr_par (f : Fl) (j : Fin 4) (c : Dev nD) : kr f (par (ord f j) c) j = kr f c j := by
  revert c; revert j; revert f; decide +kernel
/-- It keeps what this device gives away, -/
theorem kr_par_succ (f : Fl) (j : Fin 4) (c : Dev nD) : kr f (par (ord f j) c) (j + 1) = gr f c j := by
  revert c; revert j; revert f; decide +kernel
/-- and gives away what this device keeps. -/
theorem gr_par (f : Fl) (j : Fin 4) (c : Dev nD) : gr f (par (ord f j) c) j = kr f c (j + 1) := by
  revert c; revert j; revert f; decide +kernel

/-- The two halves of the rows kept so far, in one order or the other. -/
theorem halves (f : Fl) (j : Fin 4) (c : Dev nD) :
    (kr f c (j + 1) = kr f c j ∧ gr f c j = kr f c j + half j) ∨ (gr f c j = kr f c j ∧ kr f c (j + 1) = kr f c j + half j) := by
  revert c; revert j; revert f; decide +kernel

end Cert.KernelIdeal.Own
-- ==== Proof.Geo.lean ====
module

public import proofs.«01_k».proof.Proof.Tables
public import proofs.«01_k».proof.Proof.Gen.KernelIdeal.Launch
public import Idealize.ShloMosaic.Lib.Pipeline.Regions
public import Idealize.ShloMosaic.Lib.Pipeline.Kit
public import Idealize.ShloMosaic.Lib.Pipeline.ValueKit
public import Idealize.ShloMosaic.Lib.Rounds
public import Idealize.ShloMosaic.Lib.Tactic
public import Idealize.ShloMosaic.Lib.Pipeline.RegionTalk

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS URA
open Cert.KernelIdeal Cert.KernelIdeal.Gen

variable {F : FTy → Type} [FloatOps F]

/-! Blocks of the kernel's buffers: owned pieces, how they split and join, and what copies leave in them. -/

/-- The resource algebra: the launch library's and the protocol's, whose duties are named by directions. -/
abbrev UU : Type := Rounds.URounds (GSem nD τ sig) Unit × Rounds.URounds (GSem nD τ sig) Dr

local notation "𝕄" => MT nD τ sig Unit (Elt F) ℕ UU ℕ

/-- An element's row. -/
def row : (b : Bf) → (mem b).view.ty.Idx → Nat
  | .p, i => ((show (⟨2, ![4096, 4096]⟩ : Shape).Idx from i) 0).val
  | .o, i => ((show (⟨2, ![4096, 4096]⟩ : Shape).Idx from i) 0).val
  | .acc, i => ((show (⟨2, ![2048, 4096]⟩ : Shape).Idx from i) 0).val
  | .recv, i => ((show (⟨2, ![1024, 4096]⟩ : Shape).Idx from i) 0).val

/-- An element's column. -/
def col : (b : Bf) → (mem b).view.ty.Idx → Nat
  | .p, i => ((show (⟨2, ![4096, 4096]⟩ : Shape).Idx from i) 1).val
  | .o, i => ((show (⟨2, ![4096, 4096]⟩ : Shape).Idx from i) 1).val
  | .acc, i => ((show (⟨2, ![2048, 4096]⟩ : Shape).Idx from i) 1).val
  | .recv, i => ((show (⟨2, ![1024, 4096]⟩ : Shape).Idx from i) 1).val

/-- The contents of a buffer given by row and column. -/
def ext : (b : Bf) → (ℕ → ℕ → Elt F .f32) → (mem b).view.ty.Contents (Elt F)
  | .p, g => fun i => g (row .p i) (col .p i)
  | .o, g => fun i => g (row .o i) (col .o i)
  | .acc, g => fun i => g (row .acc i) (col .acc i)
  | .recv, g => fun i => g (row .recv i) (col .recv i)

/-- The elements of a block. -/
def rset (b : Bf) (r n k w : Nat) : Finset (mem b).view.ty.Idx :=
  Finset.univ.filter fun i => (r ≤ row b i ∧ row b i < r + n) ∧ (k ≤ col b i ∧ col b i < k + w)

theorem mem_rset {b : Bf} {r n k w : Nat} {i : (mem b).view.ty.Idx} :
    i ∈ rset b r n k w ↔ (r ≤ row b i ∧ row b i < r + n) ∧ (k ≤ col b i ∧ col b i < k + w) := by
  unfold rset; rw [Finset.mem_filter]; exact ⟨fun h => h.2, fun h => ⟨Finset.mem_univ _, h⟩⟩

theorem row_lt (b : Bf) (i : (mem b).view.ty.Idx) : row b i < brows b := by
  cases b <;> exact ((show Shape.Idx (⟨2, ![_, 4096]⟩ : Shape) from i) 0).isLt
theorem col_lt (b : Bf) (i : (mem b).view.ty.Idx) : col b i < 4096 := by
  cases b <;> exact ((show Shape.Idx (⟨2, ![_, 4096]⟩ : Shape) from i) 1).isLt

theorem ext_congr {b : Bf} {g g' : ℕ → ℕ → Elt F .f32} {i : (mem b).view.ty.Idx}
    (h : g (row b i) (col b i) = g' (row b i) (col b i)) : ext b g i = ext b g' i := by
  cases b <;> exact h

/-- The index at a row and a column, clipped to the buffer. -/
def ix (R r k : ℕ) : (⟨2, ![R + 1, 4096]⟩ : Shape).Idx :=
  fun | 0 => ⟨min r R, Nat.lt_succ_of_le (Nat.min_le_right r R)⟩ | 1 => ⟨min k 4095, Nat.lt_succ_of_le (Nat.min_le_right k 4095)⟩

theorem ix_self (R : ℕ) (i : (⟨2, ![R + 1, 4096]⟩ : Shape).Idx) : ix R (i 0).val (i 1).val = i := by
  funext a
  match a with
  | 0 => exact Fin.ext (Nat.min_eq_left (Nat.le_of_lt_succ (i 0).isLt))
  | 1 => exact Fin.ext (Nat.min_eq_left (Nat.le_of_lt_succ (i 1).isLt))

/-- A buffer's contents by row and column. -/
def ofBuf : (b : Bf) → (mem b).view.ty.Contents (Elt F) → ℕ → ℕ → Elt F .f32
  | .p, f => fun r k => f (ix 4095 r k)
  | .o, f => fun r k => f (ix 4095 r k)
  | .acc, f => fun r k => f (ix 2047 r k)
  | .recv, f => fun r k => f (ix 1023 r k)

theorem ext_ofBuf (b : Bf) (f : (mem b).view.ty.Contents (Elt F)) : ext b (ofBuf b f) = f := by
  cases b <;> funext i <;> exact congrArg f (ix_self _ i)

/-! ## Blocks as memory slices -/

theorem sl_row {b : Bf} {off : Fin 2 → Nat} {n w : Nat} {h : Inb b off n w} (j : (⟨2, ![n, w]⟩ : Shape).Idx) :
    row b ((sl b off n w h).view.emb j) = off 0 + (j 0).val := by
  cases b
  · exact ValueKit.rect_emb_unit_val (s := ⟨2, ![4096, 4096]⟩) off (⟨2, ![n, w]⟩ : Shape).size h j 0
  · exact ValueKit.rect_emb_unit_val (s := ⟨2, ![4096, 4096]⟩) off (⟨2, ![n, w]⟩ : Shape).size h j 0
  · exact ValueKit.rect_emb_unit_val (s := ⟨2, ![2048, 4096]⟩) off (⟨2, ![n, w]⟩ : Shape).size h j 0
  · exact ValueKit.rect_emb_unit_val (s := ⟨2, ![1024, 4096]⟩) off (⟨2, ![n, w]⟩ : Shape).size h j 0
theorem sl_col {b : Bf} {off : Fin 2 → Nat} {n w : Nat} {h : Inb b off n w} (j : (⟨2, ![n, w]⟩ : Shape).Idx) :
    col b ((sl b off n w h).view.emb j) = off 1 + (j 1).val := by
  cases b
  · exact ValueKit.rect_emb_unit_val (s := ⟨2, ![4096, 4096]⟩) off (⟨2, ![n, w]⟩ : Shape).size h j 1
  · exact ValueKit.rect_emb_unit_val (s := ⟨2, ![4096, 4096]⟩) off (⟨2, ![n, w]⟩ : Shape).size h j 1
  · exact ValueKit.rect_emb_unit_val (s := ⟨2, ![2048, 4096]⟩) off (⟨2, ![n, w]⟩ : Shape).size h j 1
  · exact ValueKit.rect_emb_unit_val (s := ⟨2, ![1024, 4096]⟩) off (⟨2, ![n, w]⟩ : Shape).size h j 1

theorem sl_mem {b : Bf} {off : Fin 2 → Nat} {n w : Nat} {h : Inb b off n w} (i : (mem b).view.ty.Idx) :
    i ∈ (sl b off n w h).view.set ↔ i ∈ rset b (off 0) n (off 1) w := by
  rw [mem_rset]
  have key (R : ℕ) (h : ∀ a, off a + (⟨2, ![n, w]⟩ : Shape).size a ≤ (⟨2, ![R, 4096]⟩ : Shape).size a) (i : (⟨2, ![R, 4096]⟩ : Shape).Idx) :
      i ∈ (Rect.unit (s := ⟨2, ![R, 4096]⟩) off (⟨2, ![n, w]⟩ : Shape).size h).set
      ↔ (off 0 ≤ (i 0).val ∧ (i 0).val < off 0 + n) ∧ (off 1 ≤ (i 1).val ∧ (i 1).val < off 1 + w) := by
    rw [Rect.mem_set_unit]; exact Fin.forall_fin_two
  cases b
  · exact ValueKit.mem_set_slice_whole_iff main_v21 (Rect.unit (s := ⟨2, ![4096, 4096]⟩) off (⟨2, ![n, w]⟩ : Shape).size h) i (key _ h i)
  · exact ValueKit.mem_set_slice_whole_iff main_v22 (Rect.unit (s := ⟨2, ![4096, 4096]⟩) off (⟨2, ![n, w]⟩ : Shape).size h) i (key _ h i)
  · exact ValueKit.mem_set_slice_whole_iff cc0_scratch0 (Rect.unit (s := ⟨2, ![2048, 4096]⟩) off (⟨2, ![n, w]⟩ : Shape).size h) i (key _ h i)
  · exact ValueKit.mem_set_slice_whole_iff cc0_scratch1 (Rect.unit (s := ⟨2, ![1024, 4096]⟩) off (⟨2, ![n, w]⟩ : Shape).size h) i (key _ h i)

theorem sl_set {b : Bf} {off : Fin 2 → Nat} {n w : Nat} {h : Inb b off n w} :
    (sl b off n w h).view.set = rset b (off 0) n (off 1) w := Finset.ext sl_mem

/-- Reading a block. -/
theorem sl_read {b : Bf} {off : Fin 2 → Nat} {n w : Nat} {h : Inb b off n w} (g : ℕ → ℕ → Elt F .f32)
    (j : (⟨2, ![n, w]⟩ : Shape).Idx) :
    (sl b off n w h).view.read (Elt F) (ext b g) j = g (off 0 + (j 0).val) (off 1 + (j 1).val) := by
  rw [← sl_row (h := h) j, ← sl_col (h := h) j]
  cases b <;> rfl

/-- A block written whole. -/
theorem sl_write {b : Bf} {off : Fin 2 → Nat} {n w : Nat} {h : Inb b off n w} (f : (mem b).view.ty.Contents (Elt F))
    (v : (⟨2, ![n, w]⟩ : Shape).Idx → Elt F .f32) (g : ℕ → ℕ → Elt F .f32)
    (hv : ∀ j, v j = g (off 0 + (j 0).val) (off 1 + (j 1).val)) (i : (mem b).view.ty.Idx)
    (hi : i ∈ rset b (off 0) n (off 1) w) :
    (sl b off n w h).view.write (Elt F) f v Finset.univ i = ext b g i := by
  obtain ⟨j, -, rfl⟩ := Finset.mem_map.mp ((sl_mem (h := h) i).mpr hi)
  rw [View.write_emb_of_mem (v := (sl b off n w h).view) (Val := Elt F) f v (Finset.mem_univ j), hv j, ← sl_row (h := h) j, ← sl_col (h := h) j]
  cases b <;> rfl

/-! ## Pieces -/

/-- Device `c` holds the block of `n` rows from `r` and `w` columns from `k` of buffer `b`, at the values `g`. -/
def piece (c : Dev nD) (b : Bf) (q : PosShare TreeShare) (r n k w : Nat) (g : ℕ → ℕ → Elt F .f32) : sProp 𝕄 :=
  (mem b).view.loc (c : Thread nD τ) ↦[rset b r n k w]{q} ext b g

/-- The same block at values not named. -/
def pany (c : Dev nD) (b : Bf) (r n k w : Nat) : sProp 𝕄 := iprop(∃ g, piece c b fullShare r n k w g)

instance piece_storable (c : Dev nD) (b : Bf) (q : PosShare TreeShare) (r n k w : Nat) (g : ℕ → ℕ → Elt F .f32) :
    BI.Storable (upEmb : UEmb _ 𝕄) (piece c b q r n k w g) := by unfold piece; infer_instance
instance pany_storable (c : Dev nD) (b : Bf) (r n k w : Nat) :
    BI.Storable (upEmb : UEmb _ 𝕄) (pany (F := F) c b r n k w) := by unfold pany; infer_instance

/-- A piece through the memory slice of its block. -/
theorem piece_sl (c : Dev nD) (b : Bf) (q : PosShare TreeShare) (off : Fin 2 → Nat) (n w : Nat) (h : Inb b off n w) (g : ℕ → ℕ → Elt F .f32) :
    (piece c b q (off 0) n (off 1) w g : sProp 𝕄)
      = (sl b off n w h).view.loc (c : Thread nD τ) ↦[(sl b off n w h).view.set]{q} ext b g := by
  unfold piece; rw [sl_set (h := h)]

/-- The values may be changed to equal ones. -/
theorem piece_congr {c : Dev nD} {b : Bf} {q : PosShare TreeShare} {r n k w : Nat} {g g' : ℕ → ℕ → Elt F .f32}
    (h : ∀ i j, r ≤ i → i < r + n → k ≤ j → j < k + w → g i j = g' i j) :
    (piece c b q r n k w g : sProp 𝕄) = piece c b q r n k w g' := by
  unfold piece
  refine pointsTo_congr fun i hi => ?_
  have hi := mem_rset.mp hi
  exact ext_congr (h _ _ hi.1.1 hi.1.2 hi.2.1 hi.2.2)

/-- Two pieces whose blocks make a third. -/
theorem piece_union {c : Dev nD} {b : Bf} {q : PosShare TreeShare} {r n k w r1 n1 k1 w1 r2 n2 k2 w2 : Nat} {g : ℕ → ℕ → Elt F .f32}
    (hu : rset b r n k w = rset b r1 n1 k1 w1 ∪ rset b r2 n2 k2 w2) (hd : Disjoint (rset b r1 n1 k1 w1) (rset b r2 n2 k2 w2)) :
    (piece c b q r n k w g : sProp 𝕄) = iprop(piece c b q r1 n1 k1 w1 g ∗ piece c b q r2 n2 k2 w2 g) := by
  unfold piece; rw [hu]
  exact BI.equiv_iff.mp ⟨(pointsTo_union hd).1, (pointsTo_union hd).2⟩

theorem rset_rows (b : Bf) (r n n' k w : Nat) :
    rset b r (n + n') k w = rset b r n k w ∪ rset b (r + n) n' k w ∧ Disjoint (rset b r n k w) (rset b (r + n) n' k w) := by
  constructor
  · ext i; rw [Finset.mem_union, mem_rset, mem_rset, mem_rset]; omega
  · rw [Finset.disjoint_left]; intro i h1 h2; rw [mem_rset] at h1 h2; omega

theorem rset_cols (b : Bf) (r n k w w' : Nat) :
    rset b r n k (w + w') = rset b r n k w ∪ rset b r n (k + w) w' ∧ Disjoint (rset b r n k w) (rset b r n (k + w) w') := by
  constructor
  · ext i; rw [Finset.mem_union, mem_rset, mem_rset, mem_rset]; omega
  · rw [Finset.disjoint_left]; intro i h1 h2; rw [mem_rset] at h1 h2; omega

/-- A piece cut between rows. -/
theorem piece_rows (c : Dev nD) (b : Bf) (q : PosShare TreeShare) (r n n' k w : Nat) (g : ℕ → ℕ → Elt F .f32) :
    (piece c b q r (n + n') k w g : sProp 𝕄) = iprop(piece c b q r n k w g ∗ piece c b q (r + n) n' k w g) :=
  piece_union (rset_rows b r n n' k w).1 (rset_rows b r n n' k w).2

/-- A piece cut between columns. -/
theorem piece_cols (c : Dev nD) (b : Bf) (q : PosShare TreeShare) (r n k w w' : Nat) (g : ℕ → ℕ → Elt F .f32) :
    (piece c b q r n k (w + w') g : sProp 𝕄) = iprop(piece c b q r n k w g ∗ piece c b q r n (k + w) w' g) :=
  piece_union (rset_cols b r n k w w').1 (rset_cols b r n k w w').2

/-- A piece shared out in two halves. -/
theorem piece_share (c : Dev nD) (b : Bf) (r n k w : Nat) (g : ℕ → ℕ → Elt F .f32) :
    (piece c b fullShare r n k w g : sProp 𝕄)
      = iprop(piece c b fullShare.left r n k w g ∗ piece c b fullShare.right r n k w g) := by
  have h := (pointsTo_share (ℓ := (mem b).view.loc (c : Thread nD τ)) (I := rset b r n k w) (f := ext b g) (Ix := Unit) (Name := ℕ) (U := UU) (Lvl := ℕ)
    (show fullShare ∈ fullShare.left ·? fullShare.right by rw [PosShare.left_op_right]; exact Part.mem_some _))
  exact BI.equiv_iff.mp ⟨h.1, h.2⟩

theorem piece_any (c : Dev nD) (b : Bf) (r n k w : Nat) (g : ℕ → ℕ → Elt F .f32) :
    (piece c b fullShare r n k w g : sProp 𝕄) ⊢ pany c b r n k w := by
  unfold pany; iintro H; iexists g; iexact H

theorem pany_split {c : Dev nD} {b : Bf} {r n k w r1 n1 k1 w1 r2 n2 k2 w2 : Nat}
    (hu : rset b r n k w = rset b r1 n1 k1 w1 ∪ rset b r2 n2 k2 w2) (hd : Disjoint (rset b r1 n1 k1 w1) (rset b r2 n2 k2 w2)) :
    (pany (F := F) c b r n k w : sProp 𝕄) = iprop(pany c b r1 n1 k1 w1 ∗ pany c b r2 n2 k2 w2) := by
  have h1 : (pany (F := F) c b r n k w : sProp 𝕄) ⊢ iprop(pany c b r1 n1 k1 w1 ∗ pany c b r2 n2 k2 w2) := by
    unfold pany
    iintro ⟨%g, H⟩
    ihave H := (Entails.of_eq (piece_union hu hd)) $$ H
    icases H with ⟨H1, H2⟩
    isplitl [H1]
    · iexists g; iexact H1
    · iexists g; iexact H2
  have h2 : iprop(pany (F := F) c b r1 n1 k1 w1 ∗ pany c b r2 n2 k2 w2) ⊢ (pany c b r n k w : sProp 𝕄) := by
    unfold pany
    iintro ⟨⟨%g1, H1⟩, ⟨%g2, H2⟩⟩
    iexists fun i j => if (r1 ≤ i ∧ i < r1 + n1) ∧ (k1 ≤ j ∧ j < k1 + w1) then g1 i j else g2 i j
    iapply (Entails.of_eq (piece_union hu hd).symm)
    isplitl [H1]
    · iapply (Entails.of_eq (piece_congr (g := g1) ?_)) $$ H1
      intro i j h1 h2 h3 h4; rw [if_pos ⟨⟨h1, h2⟩, ⟨h3, h4⟩⟩]
    · unfold piece
      iapply (Entails.of_eq (pointsTo_congr (f := ext b g2) ?_)) $$ H2
      intro i hi
      refine ext_congr ?_
      rw [if_neg fun h => Finset.disjoint_left.mp hd (mem_rset.mpr h) hi]
  exact BI.equiv_iff.mp ⟨h1, h2⟩

theorem pany_rows (c : Dev nD) (b : Bf) (r n n' k w : Nat) :
    (pany (F := F) c b r (n + n') k w : sProp 𝕄) = iprop(pany c b r n k w ∗ pany c b (r + n) n' k w) :=
  pany_split (rset_rows b r n n' k w).1 (rset_rows b r n n' k w).2
theorem pany_cols (c : Dev nD) (b : Bf) (r n k w w' : Nat) :
    (pany (F := F) c b r n k (w + w') : sProp 𝕄) = iprop(pany c b r n k w ∗ pany c b r n (k + w) w') :=
  pany_split (rset_cols b r n k w w').1 (rset_cols b r n k w w').2

/-- A whole buffer is one piece. -/
theorem rset_whole (b : Bf) : rset b 0 (brows b) 0 4096 = Finset.univ := by
  ext i
  rw [mem_rset]
  exact ⟨fun _ => Finset.mem_univ _, fun _ => ⟨⟨Nat.zero_le _, by rw [Nat.zero_add]; exact row_lt b i⟩, Nat.zero_le _, by rw [Nat.zero_add]; exact col_lt b i⟩⟩

theorem piece_whole (c : Dev nD) (b : Bf) (q : PosShare TreeShare) (g : ℕ → ℕ → Elt F .f32) :
    (piece c b q 0 (brows b) 0 4096 g : sProp 𝕄) = ((mem b).view.loc (c : Thread nD τ) ↦{q} ext b g) := by
  unfold piece; rw [rset_whole]

end Cert.KernelIdeal.Own
-- ==== Proof.Sched.lean ====
module

public import proofs.«01_k».proof.Proof.Geo

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) Dr) (MT nD τ sig Unit (Elt F) ℕ UU ℕ) := embR

/-! The values that travel, and the protocol: who pays which semaphore with what.

`P c` is the product device `c` computed for itself, by row and column of the result. -/

section Values

variable (P : Dev nD → ℕ → ℕ → Elt F .f32)

/-- The sum of two elements. -/
def fadd (a b : Elt F .f32) : Elt F .f32 := FloatOps.addf (F := F) (φ := .f32) a b

/-- A device's partial sum after `j` halvings. -/
def ps (f : Fl) : ℕ → Dev nD → ℕ → ℕ → Elt F .f32
  | 0, c => P c
  | j + 1, c => fun r k => fadd (ps f j c r k) (ps f j (par (ord f j) c) r k)

/-- The finished sum: row `r` as the device that finishes it leaves it. -/
def tot (f : Fl) (r k : ℕ) : Elt F .f32 := ps P f 4 (own f (r / 256)) r k

theorem tot_kr (f : Fl) (c : Dev nD) (r k : ℕ) (h : kr f c 4 ≤ r) (h' : r < kr f c 4 + 256) :
    tot P f r k = ps P f 4 c r k := by
  obtain ⟨h1, h2⟩ := own_kr f c
  unfold tot
  rw [show r / 256 = kr f c 4 / 256 by omega, h1]

/-- What a transfer carries, by row and column of the result. -/
def cont (f : Fl) (c : Dev nD) : St → ℕ → ℕ → Elt F .f32
  | .s0 => P c | .s1 => P c | .s2 => ps P f 1 c | .s3 => ps P f 2 c | .s4 => ps P f 3 c
  | .s5 => tot P f | .s6 => tot P f | .s7 => tot P f | .s8 => tot P f

/-- Values by row of a buffer whose row 0 stands for row `b` of the result. -/
def sh (b : ℕ) (g : ℕ → ℕ → Elt F .f32) : ℕ → ℕ → Elt F .f32 := fun r k => g (b + r) k

end Values

/-- Rows of a flow's columns. -/
abbrev fp (c : Dev nD) (b : Bf) (q : PosShare TreeShare) (f : Fl) (r n : ℕ) (g : ℕ → ℕ → Elt F .f32) : sProp 𝕄 :=
  piece c b q r n (c0 f) (cw f) g
abbrev fa (c : Dev nD) (b : Bf) (f : Fl) (r n : ℕ) : sProp 𝕄 := pany c b r n (c0 f) (cw f)

/-! ## The semaphores -/

/-- A kernel's own semaphore: ready, sent and landed for each transfer, and three for each flow's local copies. -/
abbrev SK : Type := ((Fl × St) ⊕ (Fl × St)) ⊕ ((Fl × St) ⊕ (Fl × Fin 3))

@[match_pattern] abbrev kRd (f : Fl) (w : St) : SK := .inl (.inl (f, w))
@[match_pattern] abbrev kSd (f : Fl) (w : St) : SK := .inl (.inr (f, w))
@[match_pattern] abbrev kRv (f : Fl) (w : St) : SK := .inr (.inl (f, w))
@[match_pattern] abbrev kLc (f : Fl) (s : Fin 3) : SK := .inr (.inr (f, s))

/-- Where a semaphore lies. -/
def sloc : SK → SemLoc sig
  | kRd f w => .reg (rdS f w)
  | kSd f w => .dma (sdS f w)
  | kRv f w => .dma (rvS f w)
  | kLc f s => .dma (lcS f s)

/-- Where a semaphore lies, the meeting's included. -/
def loc : Option SK → SemLoc sig
  | none => .reg brS
  | some k => sloc k

def flOf : ℕ → Fl
  | 0 => .f0 | 1 => .f1 | 2 => .f2 | _ => .f3
def stOf : ℕ → St
  | 0 => .s0 | 1 => .s1 | 2 => .s2 | 3 => .s3 | 4 => .s4 | 5 => .s5 | 6 => .s6 | 7 => .s7 | _ => .s8

/-- Which semaphore lies there. -/
def kind : SemLoc sig → Option SK
  | .reg s => if s.val = 36 then none else some (kRd (flOf (s.val / 9)) (stOf (s.val % 9)))
  | .dma s => if s.val < 36 then some (kSd (flOf (s.val / 9)) (stOf (s.val % 9)))
    else if s.val < 72 then some (kRv (flOf ((s.val - 36) / 9)) (stOf ((s.val - 36) % 9)))
    else some (kLc (flOf ((s.val - 72) / 3)) ⟨(s.val - 72) % 3, Nat.mod_lt _ (by decide)⟩)

theorem kind_loc (k : Option SK) : kind (loc k) = k := by
  match k with
  | none => rfl
  | some (kRd f w) => revert w; revert f; decide +kernel
  | some (kSd f w) => revert w; revert f; decide +kernel
  | some (kRv f w) => revert w; revert f; decide +kernel
  | some (kLc f s) => revert s; revert f; decide +kernel

theorem loc_inj : Function.Injective loc := fun a b h => by rw [← kind_loc a, h, kind_loc]
theorem sloc_inj : Function.Injective sloc := fun a b h => Option.some.inj (loc_inj (a₁ := some a) (a₂ := some b) h)

/-- Device `c`'s semaphore. -/
abbrev cell (c : Dev nD) (k : Option SK) : GSem nD τ sig := ((c : Thread nD τ), loc k)

/-! ## What is handed over -/

section Payloads

variable (P : Dev nD → ℕ → ℕ → Elt F .f32)

/-- The share of its source a transfer holds. -/
def sq : St → PosShare TreeShare
  | .s5 => fullShare.right
  | _ => fullShare

/-- The source of device `c`'s transfer. -/
def srcP (f : Fl) (w : St) (c : Dev nD) : sProp 𝕄 :=
  fp c (srcB w) (sq w) f (srow f c w) (nr w) (sh (sbase f c w) (cont P f c w))
/-- The destination of device `c`'s transfer, which lies on its partner. -/
def dstA (f : Fl) (w : St) (c : Dev nD) : sProp 𝕄 := fa (F := F) (pt f w c) (dstB w) f (drow f c w) (nr w)
/-- What the partner's transfer has left on device `c`. -/
def lndP (f : Fl) (w : St) (c : Dev nD) : sProp 𝕄 :=
  fp c (dstB w) fullShare f (drow f (pt f w c) w) (nr w) (sh (dbase f (pt f w c) w) (cont P f (pt f w c) w))

/-- The rows a local copy reads and writes, back with what it left. -/
def lcP (f : Fl) (c : Dev nD) : Fin 3 → sProp 𝕄
  | 0 => iprop(fp c .acc fullShare f 0 1024 (sh (kr f c 1) (P c)) ∗ fp c .p fullShare f (kr f c 1) 1024 (P c))
  | 1 => iprop(fp c .acc fullShare f 1024 1024 (sh (kr f c 1) (P c)) ∗ fp c .p fullShare f (kr f c 1 + 1024) 1024 (P c))
  | 2 => iprop(fp c .o fullShare f (kr f c 4) 256 (tot P f) ∗ fp c .acc fullShare.left f (kr f c 4 - kr f c 1) 256 (sh (kr f c 1) (tot P f)))

/-- That every semaphore of device `c` may be paid. -/
def opn (c : Dev nD) : sProp 𝕄 := bigSep Finset.univ fun k : SK => reached ER (cell c (some k)) 0

/-- What a semaphore's payment hands over. -/
def payK (c : Dev nD) (d : Dr) : Option SK → sProp 𝕄
  | none => opn (par d c)
  | some (kRd f w) => dstA f w c
  | some (kSd f w) => srcP P f w c
  | some (kRv f w) => lndP P f w c
  | some (kLc f s) => lcP P f c s

/-- A transfer's credit. -/
def ncr (f : Fl) (w : St) : ℕ := RefSig.tileCredit ⟨2, ![nr w, cw f]⟩ .f32
/-- A local copy's rows. -/
def lnr : Fin 3 → ℕ
  | 2 => 256
  | _ => 1024
def lcr (f : Fl) (s : Fin 3) : ℕ := RefSig.tileCredit ⟨2, ![lnr s, cw f]⟩ .f32

/-- A payment's amount. -/
def amtK : Option SK → ℕ
  | none => 1
  | some (kRd _ _) => 1
  | some (kSd f w) => ncr f w
  | some (kRv f w) => ncr f w
  | some (kLc f s) => lcr f s

theorem amtK_pos (k : Option SK) : 0 < amtK k := by
  match k with
  | none => exact Nat.one_pos
  | some (kRd _ _) => exact Nat.one_pos
  | some (kSd f w) => exact RefSig.tileCredit_pos _ _ (numel_pos f w)
  | some (kRv f w) => exact RefSig.tileCredit_pos _ _ (numel_pos f w)
  | some (kLc f s) => exact RefSig.tileCredit_pos _ _ (by revert s; revert f; decide)

/-- Who pays: a meeting is paid from all four directions, anything else once. -/
def dutK : Option SK → Finset Dr
  | none => Finset.univ
  | some _ => {.x}

/-- The protocol: every semaphore is used for one round. -/
def rd : Schedule (GSem nD τ sig) Dr 𝕄 where
  duties g r := if r = 0 ∧ g.1.2 = .tc then dutK (kind g.2) else ∅
  unitless _ := False
  amount g _ _ := amtK (kind g.2)
  payload g _ d := payK P g.1.1 d (kind g.2)
  amount_pos g _ _ _ := amtK_pos _

instance payK_storable (c : Dev nD) (d : Dr) (k : Option SK) : BI.Storable (upEmb : UEmb _ 𝕄) (payK P c d k) := by
  match k with
  | none => unfold payK opn; infer_instance
  | some (kRd _ _) => show BI.Storable _ (dstA _ _ _); unfold dstA; infer_instance
  | some (kSd f w) => show BI.Storable _ (srcP _ _ _ _); unfold srcP; infer_instance
  | some (kRv f w) => show BI.Storable _ (lndP _ _ _ _); unfold lndP; infer_instance
  | some (kLc f 0) => show BI.Storable (upEmb : UEmb _ 𝕄) (lcP P f c 0); unfold lcP; infer_instance
  | some (kLc f 1) => show BI.Storable (upEmb : UEmb _ 𝕄) (lcP P f c 1); unfold lcP; infer_instance
  | some (kLc f 2) => show BI.Storable (upEmb : UEmb _ 𝕄) (lcP P f c 2); unfold lcP; infer_instance

instance rd_storable (g : GSem nD τ sig) (r : ℕ) (d : Dr) : BI.Storable (upEmb : UEmb _ 𝕄) ((rd P).payload g r d) :=
  payK_storable P _ _ _

theorem duties_cell (c : Dev nD) (k : Option SK) : (rd P).duties (cell c k) 0 = dutK k := by
  show (if 0 = 0 ∧ (c : Thread nD τ).2 = .tc then dutK (kind (loc k)) else ∅) = _
  rw [if_pos ⟨rfl, rfl⟩, kind_loc]
theorem duties_later (g : GSem nD τ sig) (r : ℕ) (h : 1 ≤ r) : (rd P).duties g r = ∅ :=
  if_neg fun h' => by omega
theorem amount_cell (c : Dev nD) (k : Option SK) (r : ℕ) (d : Dr) : (rd P).amount (cell c k) r d = amtK k :=
  congrArg amtK (kind_loc k)
theorem payload_cell (c : Dev nD) (k : Option SK) (r : ℕ) (d : Dr) : (rd P).payload (cell c k) r d = payK P c d k :=
  congrArg (payK P c d) (kind_loc k)

theorem mem_duties (c : Dev nD) (k : SK) : Dr.x ∈ (rd P).duties (cell c (some k)) 0 := by
  rw [duties_cell]; exact Finset.mem_singleton_self _
theorem mem_duties_br (c : Dev nD) (d : Dr) : d ∈ (rd P).duties (cell c none) 0 := by
  rw [duties_cell]; exact Finset.mem_univ _
theorem expect_cell (c : Dev nD) (k : SK) : (rd P).expect (cell c (some k)) 0 = amtK (some k) := by
  unfold Schedule.expect Schedule.amountOf
  rw [duties_cell]
  show ∑ d ∈ {Dr.x}, _ = _
  rw [Finset.sum_singleton, amount_cell]
theorem expect_br (c : Dev nD) : (rd P).expect (cell c none) 0 = 4 := by
  unfold Schedule.expect Schedule.amountOf
  rw [duties_cell]
  show ∑ d : Dr, _ = _
  rw [Finset.sum_congr rfl fun d _ => amount_cell P c none 0 d]
  rfl
theorem rest_cell (c : Dev nD) (k : SK) :
    bigSep ((rd P).duties (cell c (some k)) 0 \ ∅) (fun d => (rd P).payload (cell c (some k)) 0 d) = payK P c .x (some k) := by
  rw [Finset.sdiff_empty, duties_cell]
  show bigSep {Dr.x} _ = _
  rw [bigSep_singleton, payload_cell]
theorem rest_br (c : Dev nD) :
    bigSep ((rd P).duties (cell c none) 0 \ ∅) (fun d => (rd P).payload (cell c none) 0 d) = bigSep Finset.univ fun d => opn (par d c) := by
  rw [Finset.sdiff_empty, duties_cell]
  exact bigSep_congr fun d _ => payload_cell P c none 0 d

end Payloads

/-! ## What a device owes, and in which order -/

/-- A transfer's place in the order of issue. -/
def pos (x : Fl × St) : ℕ := order.idxOf x

/-- Waits are ordered: a payment owed when a wait begins lies on a higher level than the wait. -/
def lvK : Option SK → ℕ
  | none => 1
  | some (kRd f w) => 2 * pos (f, w) + 2
  | some (kRv f w) => 2 * pos (f, w) + 3
  | _ => 0

def lv (g : GSem nD τ sig) (_ : Unit) : ℕ := lvK (kind g.2)
def L (g : GSem nD τ sig) : Finset Unit := if g.1.2 = .tc then {()} else ∅

theorem L_of_ne (g : GSem nD τ sig) (h : g.1.2 ≠ .tc) : L g = ∅ := if_neg h
theorem L_cell (c : Dev nD) (k : Option SK) : () ∈ L (cell c k) := by
  unfold L; rw [if_pos rfl]; exact Finset.mem_singleton_self _
theorem lv_cell (c : Dev nD) (k : Option SK) : lv (cell c k) () = lvK k := congrArg lvK (kind_loc k)

/-- What is owed for the transfers of a list: a ready unit and a landing's credit each, on the partner. -/
def dues (c : Dev nD) : List (Fl × St) → CellTallies nD τ sig Unit
  | [] => 0
  | (f, w) :: l => tallyAt (cell (pt f w c) (some (kRd f w))) () 1
      + (tallyAt (cell (pt f w c) (some (kRv f w))) () (ncr f w) + dues c l)

/-- What is owed before the meeting. -/
def dueM (c : Dev nD) : List Dr → CellTallies nD τ sig Unit
  | [] => dues c order
  | d :: l => tallyAt (cell (par d c) none) () 1 + dueM c l

theorem tally_pos {g g' : GSem nD τ sig} {n : ℕ} {u : Unit} (h : 0 < (tallyAt g () n : CellTallies nD τ sig Unit) g' u) : g' = g := by
  rw [tallyAt_apply] at h
  by_cases h' : g' = g ∧ u = ()
  · exact h'.1
  · rw [if_neg h'] at h; exact absurd h (Nat.lt_irrefl 0)

theorem dues_pos {c : Dev nD} {l : List (Fl × St)} {g : GSem nD τ sig} {u : Unit} (h : 0 < dues c l g u) :
    ∃ x ∈ l, g = cell (pt x.1 x.2 c) (some (kRd x.1 x.2)) ∨ g = cell (pt x.1 x.2 c) (some (kRv x.1 x.2)) := by
  induction l with
  | nil => exact absurd h (Nat.lt_irrefl 0)
  | cons x l ih =>
    obtain ⟨f, w⟩ := x
    unfold dues at h
    rw [Pi.add_apply, Finsupp.add_apply, Pi.add_apply, Finsupp.add_apply] at h
    rcases Nat.add_pos_iff_pos_or_pos.mp h with h | h
    · exact ⟨(f, w), List.mem_cons_self, .inl (tally_pos h)⟩
    rcases Nat.add_pos_iff_pos_or_pos.mp h with h | h
    · exact ⟨(f, w), List.mem_cons_self, .inr (tally_pos h)⟩
    · obtain ⟨x, hx, h⟩ := ih h; exact ⟨x, List.mem_cons_of_mem _ hx, h⟩

/-- A wait below everything owed. -/
theorem mayWait (c : Dev nD) (k : Option SK) (O : CellTallies nD τ sig Unit)
    (h : ∀ g u, 0 < O g u → ∃ c' k', g = cell c' k' ∧ lvK k < lvK k') :
    (levAts L lv : sProp 𝕄) ⊢ MayWait (c : Thread nD τ) (loc k) () O :=
  MayOwe.of_cut (L := L) (lev := lv) (lvK k) (fun p hp => by rw [Finset.mem_singleton.mp hp]; exact L_cell c k)
    (fun g u hg => by obtain ⟨c', k', rfl, -⟩ := h g u hg; exact L_cell c' k')
    (fun p hp => by rw [Finset.mem_singleton.mp hp]; exact le_of_eq (lv_cell c k))
    (fun g u hg => by obtain ⟨c', k', rfl, h⟩ := h g u hg; exact h.trans_eq (lv_cell c' k').symm)

theorem mayWait_dues (c : Dev nD) (k : Option SK) (l : List (Fl × St)) (h : ∀ x ∈ l, lvK k < 2 * pos x + 2) :
    (levAts L lv : sProp 𝕄) ⊢ MayWait (c : Thread nD τ) (loc k) () (dues c l) :=
  mayWait c k _ fun g u hg => by
    obtain ⟨x, hx, rfl | rfl⟩ := dues_pos hg
    · exact ⟨_, _, rfl, h x hx⟩
    · exact ⟨_, _, rfl, (h x hx).trans (Nat.lt_succ_self _)⟩

end Cert.KernelIdeal.Own
-- ==== Proof.Steps.lean ====
module

public import proofs.«01_k».proof.Proof.Sched

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! One lemma for each kind of step the body makes: what it takes, and what it leaves. -/

/-- A program of device `c` that ends in `Q`. -/
abbrev Runs (c : Dev nD) (k : PG F) (Q : PUnit → sProp 𝕄) : sProp 𝕄 :=
  wp frame (wpE (defs₀ (F := F)) 𝒱₀ (c : Thread nD τ) none) Set.univ k Q

variable (P : Dev nD → ℕ → ℕ → Elt F .f32) (K : GSem nD τ sig → ℕ)

/-! ## What every step may use -/

/-- Every semaphore's invariant. -/
def invs : sProp 𝕄 :=
  bigSep Finset.univ fun c : Dev nD => bigSep Finset.univ fun k : Option SK => cellInv ER (rd P) (K (cell c k)) (cell c k)

instance invs_persistent : BI.Persistent (invs P K) := by unfold invs; infer_instance
instance opn_persistent (c : Dev nD) : BI.Persistent (opn (F := F) c) := by unfold opn; infer_instance

/-- The invariants, that the own and the partners' semaphores may be paid, and the levels. -/
def Env (c : Dev nD) : sProp 𝕄 :=
  iprop(invs P K ∗ opn c ∗ (bigSep Finset.univ fun d : Dr => opn (par d c)) ∗ levAts L lv)

instance Env_persistent (c : Dev nD) : BI.Persistent (Env P K c) := by unfold Env; infer_instance

theorem invs_at (c : Dev nD) (k : Option SK) : invs P K ⊢ cellInv ER (rd P) (K (cell c k)) (cell c k) :=
  (bigSep_elim (i := c) (Finset.mem_univ _)).trans (bigSep_elim (i := k) (Finset.mem_univ _))
theorem opn_at (c : Dev nD) (k : SK) : (opn c : sProp 𝕄) ⊢ reached ER (cell c (some k)) 0 :=
  bigSep_elim (i := k) (Finset.mem_univ _)

theorem env_inv (c c' : Dev nD) (k : Option SK) : Env P K c ⊢ cellInv ER (rd P) (K (cell c' k)) (cell c' k) := by
  unfold Env
  iintro ⟨H, -, -, -⟩
  iapply (invs_at P K c' k); iexact H
theorem env_own (c : Dev nD) (k : SK) : Env P K c ⊢ reached ER (cell c (some k)) 0 := by
  unfold Env
  iintro ⟨-, H, -, -⟩
  iapply (opn_at c k); iexact H
theorem env_par (c : Dev nD) (d : Dr) (k : SK) : Env P K c ⊢ reached ER (cell (par d c) (some k)) 0 := by
  have h : (bigSep Finset.univ fun d : Dr => opn (F := F) (par d c)) ⊢ opn (par d c) := bigSep_elim (i := d) (Finset.mem_univ _)
  unfold Env
  iintro ⟨-, -, H, -⟩
  ihave H := h $$ H
  iapply (opn_at (par d c) k); iexact H
theorem env_lev (c : Dev nD) : Env P K c ⊢ levAts L lv := by
  unfold Env
  iintro ⟨-, -, -, H⟩
  iexact H

/-- What device `c` owes. -/
def ow (c : Dev nD) (O : CellTallies nD τ sig Unit) : sProp 𝕄 := iprop(∃ W, owes (c : Thread nD τ) O W)

/-! ## A wait for the one round of a semaphore -/

theorem closed (c : Dev nD) (k : Option SK) :
    iprop(Env P K c ∗ atPos ER (cell c k) (0 + 1) ∅ 0) ⊢ (|={Set.univ}=> semVal (cell c k) 0 : sProp 𝕄) := by
  iintro ⟨#HE, H⟩
  iapply (Rounds.cell_close ER (rd P) (κ := K (cell c k)) (Set.mem_univ _) id (fun r h => duties_later P (cell c k) r h))
  isplitr
  · iapply (env_inv P K c c k); iexact HE
  iexact H

/-- What a transfer needs beside memory: the tokens to pay with, the positions of the waits, the credits of the partner's payments. -/
def gh (c : Dev nD) (f : Fl) (w : St) : sProp 𝕄 :=
  iprop(dutyTok ER (cell (pt f w c) (some (kRd f w))) 0 Dr.x ∗ dutyTok ER (cell (pt f w c) (some (kRv f w))) 0 Dr.x
    ∗ dutyTok ER (cell c (some (kSd f w))) 0 Dr.x
    ∗ atPos ER (cell c (some (kRd f w))) 0 ∅ 0 ∗ atPos ER (cell c (some (kSd f w))) 0 ∅ 0 ∗ atPos ER (cell c (some (kRv f w))) 0 ∅ 0
    ∗ cred (tallyAt (cell c (some (kRd f w))) () 1) ∗ cred (tallyAt (cell c (some (kRv f w))) () (ncr f w)))

/-- A transfer on its way. -/
def fl (c : Dev nD) (f : Fl) (w : St) : sProp 𝕄 :=
  iprop(semVal (cell c (some (kRd f w))) 0 ∗ atPos ER (cell c (some (kSd f w))) 0 ∅ 0 ∗ atPos ER (cell c (some (kRv f w))) 0 ∅ 0
    ∗ cred (tallyAt (cell c (some (kSd f w))) () (ncr f w)) ∗ cred (tallyAt (cell c (some (kRv f w))) () (ncr f w)))

/-- A transfer's semaphores once it is over. -/
def dn (c : Dev nD) (f : Fl) (w : St) : sProp 𝕄 :=
  iprop(semVal (cell c (some (kRd f w))) 0 ∗ semVal (cell c (some (kSd f w))) 0 ∗ semVal (cell c (some (kRv f w))) 0)

theorem dstA_pt (f : Fl) (w : St) (c : Dev nD) :
    (dstA f w (pt f w c) : sProp 𝕄) = fa c (dstB w) f (drow f (pt f w c) w) (nr w) := by
  unfold dstA pt; rw [par_par]

/-- A copied block holds what its source holds. -/
theorem copied (c : Dev nD) (b b' : Bf) (off off' : Fin 2 → Nat) (n w : Nat) (h : Inb b off n w) (h' : Inb b' off' n w)
    (g g' : ℕ → ℕ → Elt F .f32) (hg : ∀ i j, i < n → j < w → g (off 0 + i) (off 1 + j) = g' (off' 0 + i) (off' 1 + j))
    (fd : (mem b').view.ty.Contents (Elt F)) :
    ((sl b' off' n w h').view.loc (c : Thread nD τ) ↦[(sl b' off' n w h').view.set]{fullShare}
        (sl b' off' n w h').view.write (Elt F) fd ((sl b off n w h).view.read (Elt F) (ext b g)) Finset.univ : sProp 𝕄)
      = piece c b' fullShare (off' 0) n (off' 1) w g' := by
  rw [piece_sl (h := h')]
  refine pointsTo_congr fun i hi => ?_
  refine sl_write fd _ g' (fun j => ?_) i (by rw [← sl_set (h := h')]; exact hi)
  rw [sl_read]
  exact hg _ _ (j 0).isLt (j 1).isLt

theorem credit (b : Bf) (off : Fin 2 → Nat) (n w : Nat) (h : Inb b off n w) :
    (sl b off n w h).view.dmaCredit = RefSig.tileCredit ⟨2, ![n, w]⟩ .f32 := by
  cases b <;> rfl
theorem amount (b : Bf) (off : Fin 2 → Nat) (n w : Nat) (h : Inb b off n w) (s : DmaSem sig) :
    (sl b off n w h).view.amount (.dma s) = RefSig.tileCredit ⟨2, ![n, w]⟩ .f32 := by
  cases b <;> rfl

/-- A transfer's source through its memory slice. -/
theorem srcP_sl (f : Fl) (w : St) (c : Dev nD) :
    (srcP P f w c : sProp 𝕄)
      = (sl (srcB w) (srcOff f w c) (nr w) (cw f) (src_inb f w c)).view.loc (c : Thread nD τ)
          ↦[(sl (srcB w) (srcOff f w c) (nr w) (cw f) (src_inb f w c)).view.set]{sq w}
            ext (srcB w) (sh (sbase f c w) (cont P f c w)) := by
  rw [← piece_sl, srcOff_eq]; rfl

/-- A transfer's destination through its memory slice. -/
theorem fp_dst (f : Fl) (w : St) (c e : Dev nD) (g : ℕ → ℕ → Elt F .f32) :
    (fp e (dstB w) fullShare f (drow f c w) (nr w) g : sProp 𝕄)
      = (sl (dstB w) (dstOff f w c) (nr w) (cw f) (dst_inb f w c)).view.loc (e : Thread nD τ)
          ↦[(sl (dstB w) (dstOff f w c) (nr w) (cw f) (dst_inb f w c)).view.set]{fullShare} ext (dstB w) g := by
  rw [← piece_sl, dstOff_eq]; rfl

/-- What a transfer lands is what its source held. -/
theorem landed (f : Fl) (w : St) (c : Dev nD) (fd : (mem (dstB w)).view.ty.Contents (Elt F)) :
    ((sl (dstB w) (dstOff f w c) (nr w) (cw f) (dst_inb f w c)).view.loc ((pt f w c : Dev nD) : Thread nD τ)
        ↦[(sl (dstB w) (dstOff f w c) (nr w) (cw f) (dst_inb f w c)).view.set]{fullShare}
          (sl (dstB w) (dstOff f w c) (nr w) (cw f) (dst_inb f w c)).view.write (Elt F) fd
            ((sl (srcB w) (srcOff f w c) (nr w) (cw f) (src_inb f w c)).view.read (Elt F)
              (ext (srcB w) (sh (sbase f c w) (cont P f c w)))) Finset.univ : sProp 𝕄)
      = lndP P f w (pt f w c) := by
  rw [copied (pt f w c) _ _ _ _ _ _ _ _ (sh (sbase f c w) (cont P f c w)) (sh (dbase f c w) (cont P f c w)) (fun i j hi hj => ?_) fd]
  · unfold lndP
    rw [show pt f w (pt f w c) = c from par_par _ _, dstOff_eq]
    rfl
  · have h := rows_match f w c
    rw [srcOff_eq, dstOff_eq]
    show cont P f c w (sbase f c w + (srow f c w + i)) (c0 f + j) = cont P f c w (dbase f c w + (drow f c w + i)) (c0 f + j)
    rw [← Nat.add_assoc, ← Nat.add_assoc, h]

/-- Telling, hearing and sending, with the partner a variable. -/
def sendTo (f : Fl) (w : St) (d0 p1 p2 : Dev nD) (k : PG F) : PG F :=
  .op (.semSignal (p1, .tc) (rdS f w) ((1 : ℕ) : ℤ)) fun _ =>
  .op (.semWait (rdS f w) ((1 : ℕ) : ℤ)) fun _ =>
  .op (.enqueueDma (sl (srcB w) (srcOff f w d0) (nr w) (cw f) (src_inb f w d0))
    (.remote (Dev.tc p2) (sl (dstB w) (dstOff f w d0) (nr w) (cw f) (dst_inb f w d0)) (.dma (sdS f w)))
    (.dma (rvS f w)) (View.wordExact_bits (by cases w <;> rfl)) (View.wordExact_bits (by cases w <;> rfl))
    ⟨⟨rfl, Or.inl rfl⟩, by cases w <;> trivial⟩) fun _ => k

theorem issueR_to (f : Fl) (w : St) (d0 : Dev nD) (k : PG F) :
    issueR f w d0 k = sendTo f w d0 (⟨devS f w d0, devS_lt f w d0⟩ : Dev nD) (⟨devR f w d0, devR_lt f w d0⟩ : Dev nD) k := rfl

/-- Nothing owed after the ready unit is below the wait for the partner's. -/
theorem mayWait_issue (f : Fl) (w : St) (c : Dev nD) (l : List (Fl × St)) (hl : ∀ x ∈ l, pos (f, w) < pos x) :
    (levAts L lv : sProp 𝕄) ⊢ MayWait (c : Thread nD τ) (.reg (rdS f w)) ()
      (tallyAt (cell (pt f w c) (some (kRv f w))) () (ncr f w) + dues c l) :=
  mayWait c (some (kRd f w)) _ fun g u hg => by
    rw [Pi.add_apply, Finsupp.add_apply] at hg
    rcases Nat.add_pos_iff_pos_or_pos.mp hg with hg | hg
    · exact ⟨_, _, tally_pos hg, Nat.lt_succ_self _⟩
    · obtain ⟨x, hx, rfl | rfl⟩ := dues_pos hg
      · exact ⟨_, _, rfl, by show 2 * pos (f, w) + 2 < 2 * pos x + 2; have := hl x hx; omega⟩
      · exact ⟨_, _, rfl, by show 2 * pos (f, w) + 2 < 2 * pos x + 3; have := hl x hx; omega⟩

set_option maxHeartbeats 800000 in
/-- Telling the partner where it may write, hearing the same from it, and sending. -/
theorem issueR_runs (f : Fl) (w : St) (c : Dev nD) (l : List (Fl × St)) (hl : ∀ x ∈ l, pos (f, w) < pos x)
    (k : PG F) (Q : PUnit → sProp 𝕄) :
    iprop(Env P K c ∗ gh c f w ∗ ow c (dues c ((f, w) :: l)) ∗ fa c (dstB w) f (drow f (pt f w c) w) (nr w) ∗ srcP P f w c)
      ⊢ iprop((iprop(fl c f w ∗ ow c (dues c l)) -∗ Runs c k Q) -∗ Runs c (issueR f w c k) Q) := by
  rw [issueR_to, devS_eq, devR_eq]
  unfold sendTo
  have hp1 : (fa c (dstB w) f (drow f (pt f w c) w) (nr w) : sProp 𝕄)
      ⊢ (rd P).payload ((pt f w c : Thread nD τ), SemLoc.reg (rdS f w)) 0 Dr.x :=
    Entails.of_eq ((payload_cell P (pt f w c) (some (kRd f w)) 0 Dr.x).trans (dstA_pt f w c)).symm
  have hp2 : (bigSep ((rd P).duties ((c : Thread nD τ), SemLoc.reg (rdS f w)) 0 \ ∅)
        fun d => (rd P).payload ((c : Thread nD τ), SemLoc.reg (rdS f w)) 0 d)
      ⊢ (iprop(∃ g, fp (pt f w c) (dstB w) fullShare f (drow f c w) (nr w) g) : sProp 𝕄) :=
    Entails.of_eq (rest_cell P c (kRd f w))
  have hmw := (env_lev P K c).trans (mayWait_issue (F := F) f w c l hl)
  unfold gh ow
  iintro ⟨#HE, ⟨Htrd, Htrv, Htsd, Hard, Hasd, Harv, Hcrd, Hcrv⟩, ⟨%W, HO⟩, Hd, Hs⟩ Hk
  iapply (Rounds.wp_signal 𝒱₀ ER (rd P) (c : Thread nD τ) none (dst := (pt f w c : Thread nD τ)) (sem := rdS f w) (r := 0) (d := Dr.x)
      (κ := K (cell (pt f w c) (some (kRd f w)))) (mem_duties P (pt f w c) (kRd f w)) (amount_cell P (pt f w c) (some (kRd f w)) 0 Dr.x) ()
      (tallyAt (cell (pt f w c) (some (kRv f w))) () (ncr f w) + dues c l) (add_comm _ _)) $$ [HO Htrd Hd]
  · isplitr; · iapply (env_inv P K c (pt f w c) (some (kRd f w))); iexact HE
    isplitl [HO]; · iexact HO
    isplitl [Htrd]; · iexact Htrd
    isplitl [Hd]
    · iapply hp1; iexact Hd
    · iapply (env_par P K c (dir f w) (kRd f w)); iexact HE
  iintro HO
  iapply (Rounds.wp_wait_rest_token 𝒱₀ ER (rd P) (c : Thread nD τ) none (κ := K (cell c (some (kRd f w))))
      (wpE_semWait_eq 𝒱₀ (c : Thread nD τ) none Set.univ) (Set.mem_univ _) ()
      (O := tallyAt (cell (pt f w c) (some (kRv f w))) () (ncr f w) + dues c l) (W := W) (R := 0) (m := 0) (T := ∅)
      ((Nat.zero_add 1).trans (expect_cell P c (kRd f w)).symm)) $$ [Hcrd HO Hard]
  · isplitr; · iapply (env_inv P K c c (some (kRd f w))); iexact HE
    isplitl [Hcrd]; · iexact Hcrd
    isplitl [HO]; · iexact HO
    isplitr
    · iapply hmw; iexact HE
    iexact Hard
  iintro ⟨HO, Hard, -, Hpay⟩
  ihave Hp := hp2 $$ Hpay
  icases Hp with ⟨%g, Hp⟩
  ihave Hp := (Entails.of_eq (fp_dst f w c (pt f w c) g)) $$ Hp
  ihave Hs := (Entails.of_eq (srcP_sl P f w c)) $$ Hs
  imod (closed P K c (some (kRd f w))) $$ [Hard] with Hrd0
  · isplitr; · iexact HE
    iexact Hard
  iapply (Rounds.wp_send_pointsTo 𝒱₀ ER (rd P) (c : Thread nD τ) none (c' := (pt f w c : Thread nD τ))
      (src := sl (srcB w) (srcOff f w c) (nr w) (cw f) (src_inb f w c)) (dst := sl (dstB w) (dstOff f w c) (nr w) (cw f) (dst_inb f w c))
      (sS := .dma (sdS f w)) (sem := .dma (rvS f w)) (q := sq w) (fs := ext (srcB w) (sh (sbase f c w) (cont P f c w)))
      (κ₁ := K (cell c (some (kSd f w)))) (κ₂ := K (cell (pt f w c) (some (kRv f w))))
      (r₁ := 0) (r₂ := 0) (d₁ := Dr.x) (d₂ := Dr.x) (fd := ext (dstB w) g)
      (mem_duties P c (kSd f w)) (mem_duties P (pt f w c) (kRv f w))
      () () (ncr f w) (amount _ _ _ _ _ _) (amount_cell P c (some (kSd f w)) 0 Dr.x) (amount_cell P (pt f w c) (some (kRv f w)) 0 Dr.x)
      (dues c l) (add_comm _ _) (W := insert (SemLoc.reg (rdS f w), ()) W)
      (Entails.of_eq ((srcP_sl P f w c).symm.trans (payload_cell P c (some (kSd f w)) 0 Dr.x).symm))
      (Entails.of_eq ((landed P f w c (ext (dstB w) g)).trans (payload_cell P (pt f w c) (some (kRv f w)) 0 Dr.x).symm))) $$ [Hs Hp HO Htsd Htrv]
  · isplitr; · iapply (env_inv P K c c (some (kSd f w))); iexact HE
    isplitr; · iapply (env_inv P K c (pt f w c) (some (kRv f w))); iexact HE
    isplitl [Hs]; · iexact Hs
    isplitl [Hp]; · iexact Hp
    isplitl [HO]; · iexact HO
    isplitl [Htsd]; · iexact Htsd
    isplitr; · iapply (env_own P K c (kSd f w)); iexact HE
    isplitl [Htrv]; · iexact Htrv
    iapply (env_par P K c (dir f w) (kRv f w)); iexact HE
  iintro ⟨HcS, HO⟩
  iapply Hk
  unfold fl
  isplitr [HO]
  · isplitl [Hrd0]; · iexact Hrd0
    isplitl [Hasd]; · iexact Hasd
    isplitl [Harv]; · iexact Harv
    isplitl [HcS]; · iexact HcS
    iexact Hcrv
  iexists _; iexact HO

/-- Waiting on one of the copy semaphores, which is below everything owed. -/
theorem mayWait_copy (k : SK) (c : Dev nD) (l : List (Fl × St)) (hl : ∀ x ∈ l, lvK (some k) < 2 * pos x + 2) :
    Env P K c ⊢ MayWait (c : Thread nD τ) (loc (some k)) () (dues c l) :=
  (env_lev P K c).trans (mayWait_dues c (some k) l hl)

set_option maxHeartbeats 800000 in
/-- Waiting until the own transfer has been read and the partner's has landed. -/
theorem waits_runs (f : Fl) (w : St) (c : Dev nD) (l : List (Fl × St)) (hl : ∀ x ∈ l, pos (f, w) < pos x)
    (k : PG F) (Q : PUnit → sProp 𝕄) :
    iprop(Env P K c ∗ fl c f w ∗ ow c (dues c l))
      ⊢ iprop((iprop(dn c f w ∗ ow c (dues c l) ∗ srcP P f w c ∗ lndP P f w c) -∗ Runs c k Q) -∗ Runs c (waits f w c k) Q) := by
  have hp1 : (bigSep ((rd P).duties ((c : Thread nD τ), SemLoc.dma (sdS f w)) 0 \ ∅)
        fun d => (rd P).payload ((c : Thread nD τ), SemLoc.dma (sdS f w)) 0 d) ⊢ srcP P f w c :=
    Entails.of_eq (rest_cell P c (kSd f w))
  have hp2 : (bigSep ((rd P).duties ((c : Thread nD τ), SemLoc.dma (rvS f w)) 0 \ ∅)
        fun d => (rd P).payload ((c : Thread nD τ), SemLoc.dma (rvS f w)) 0 d) ⊢ lndP P f w c :=
    Entails.of_eq (rest_cell P c (kRv f w))
  have hm1 : Env P K c ⊢ MayWait (c : Thread nD τ) (.dma (sdS f w)) () (dues c l) :=
    mayWait_copy P K (kSd f w) c l (fun x hx => by show 0 < 2 * pos x + 2; omega)
  have hm2 : Env P K c ⊢ MayWait (c : Thread nD τ) (.dma (rvS f w)) () (dues c l) :=
    mayWait_copy P K (kRv f w) c l (fun x hx => by show 2 * pos (f, w) + 3 < 2 * pos x + 2; have := hl x hx; omega)
  unfold waits fl ow
  iintro ⟨#HE, ⟨Hrd0, Hasd, Harv, Hcsd, Hcrv⟩, ⟨%W, HO⟩⟩ Hk
  iapply (Rounds.wp_wait_rest_token 𝒱₀ ER (rd P) (c : Thread nD τ) none (κ := K (cell c (some (kSd f w))))
      (wpE_waitDma2_eq 𝒱₀ (c : Thread nD τ) none Set.univ) (Set.mem_univ _) () (O := dues c l) (W := W) (R := 0) (m := 0) (T := ∅)
      ((Nat.zero_add _).trans ((credit _ _ _ _ _).trans (expect_cell P c (kSd f w)).symm))) $$ [Hcsd HO Hasd]
  · isplitr; · iapply (env_inv P K c c (some (kSd f w))); iexact HE
    isplitl [Hcsd]
    · rw [credit]; iexact Hcsd
    isplitl [HO]; · iexact HO
    isplitr; · iapply hm1; iexact HE
    iexact Hasd
  iintro ⟨HO, Hasd, -, Hpay⟩
  ihave Hs := hp1 $$ Hpay
  iapply (Rounds.wp_wait_rest_token 𝒱₀ ER (rd P) (c : Thread nD τ) none (κ := K (cell c (some (kRv f w))))
      (wpE_waitDma2_eq 𝒱₀ (c : Thread nD τ) none Set.univ) (Set.mem_univ _) () (O := dues c l)
      (W := insert (SemLoc.dma (sdS f w), ()) W) (R := 0) (m := 0) (T := ∅)
      ((Nat.zero_add _).trans ((credit _ _ _ _ _).trans (expect_cell P c (kRv f w)).symm))) $$ [Hcrv HO Harv]
  · isplitr; · iapply (env_inv P K c c (some (kRv f w))); iexact HE
    isplitl [Hcrv]
    · rw [credit]; iexact Hcrv
    isplitl [HO]; · iexact HO
    isplitr; · iapply hm2; iexact HE
    iexact Harv
  iintro ⟨HO, Harv, -, Hpay⟩
  ihave Hl := hp2 $$ Hpay
  imod (closed P K c (some (kSd f w))) $$ [Hasd] with Hsd0
  · isplitr; · iexact HE
    iexact Hasd
  imod (closed P K c (some (kRv f w))) $$ [Harv] with Hrv0
  · isplitr; · iexact HE
    iexact Harv
  iapply Hk
  unfold dn
  isplitl [Hrd0 Hsd0 Hrv0]
  · isplitl [Hrd0]; · iexact Hrd0
    isplitl [Hsd0]; · iexact Hsd0
    iexact Hrv0
  isplitl [HO]; · iexists _; iexact HO
  isplitl [Hs]; · iexact Hs
  iexact Hl

/-! ## Copies within the device -/

/-- What a copy within the device needs beside memory. -/
def ghL (c : Dev nD) (f : Fl) (s : Fin 3) : sProp 𝕄 :=
  iprop(dutyTok ER (cell c (some (kLc f s))) 0 Dr.x ∗ atPos ER (cell c (some (kLc f s))) 0 ∅ 0)
/-- Such a copy on its way. -/
def flL (c : Dev nD) (f : Fl) (s : Fin 3) : sProp 𝕄 :=
  iprop(atPos ER (cell c (some (kLc f s))) 0 ∅ 0 ∗ cred (tallyAt (cell c (some (kLc f s))) () (lcr f s)))

set_option maxHeartbeats 800000 in
theorem locCopy_runs (f : Fl) (s : Fin 3) (c : Dev nD) (b b' : Bf) (off off' : Fin 2 → Nat) (n : Nat) (h : Inb b off n (cw f)) (h' : Inb b' off' n (cw f))
    (q : PosShare TreeShare) (r r' : Nat) (ho : off = ![r, c0 f]) (ho' : off' = ![r', c0 f]) (hn : lnr s = n)
    (g g' : ℕ → ℕ → Elt F .f32) (hg : ∀ i j, i < n → j < cw f → g (r + i) (c0 f + j) = g' (r' + i) (c0 f + j))
    (hp : lcP P f c s = iprop(fp c b' fullShare f r' n g' ∗ fp c b q f r n g))
    (k : PG F) (Q : PUnit → sProp 𝕄) :
    iprop(Env P K c ∗ ghL c f s ∗ fp c b q f r n g ∗ fa c b' f r' n)
      ⊢ iprop((flL c f s -∗ Runs c k Q) -∗ Runs c (locCopy b b' off off' n (cw f) h h' (lcS f s) k) Q) := by
  subst ho ho' hn
  have hs : (fp c b q f r (lnr s) g : sProp 𝕄) = (sl b ![r, c0 f] (lnr s) (cw f) h).view.loc (c : Thread nD τ) ↦[(sl b ![r, c0 f] (lnr s) (cw f) h).view.set]{q} ext b g :=
    piece_sl c b q ![r, c0 f] (lnr s) (cw f) h g
  have hd (g : ℕ → ℕ → Elt F .f32) : (fp c b' fullShare f r' (lnr s) g : sProp 𝕄) = (sl b' ![r', c0 f] (lnr s) (cw f) h').view.loc (c : Thread nD τ) ↦[(sl b' ![r', c0 f] (lnr s) (cw f) h').view.set]{fullShare} ext b' g :=
    piece_sl c b' fullShare ![r', c0 f] (lnr s) (cw f) h' g
  have hpay (fd : (mem b').view.ty.Contents (Elt F)) : iprop(((sl b' ![r', c0 f] (lnr s) (cw f) h').view.loc (c : Thread nD τ) ↦[(sl b' ![r', c0 f] (lnr s) (cw f) h').view.set]{fullShare}
        (sl b' ![r', c0 f] (lnr s) (cw f) h').view.write (Elt F) fd ((sl b ![r, c0 f] (lnr s) (cw f) h).view.read (Elt F) (ext b g)) Finset.univ)
      ∗ ((sl b ![r, c0 f] (lnr s) (cw f) h).view.loc (c : Thread nD τ) ↦[(sl b ![r, c0 f] (lnr s) (cw f) h).view.set]{q} ext b g))
      ⊢ (rd P).payload ((c : Thread nD τ), SemLoc.dma (lcS f s)) 0 Dr.x := by
    rw [copied c b b' ![r, c0 f] ![r', c0 f] (lnr s) (cw f) h h' g g' hg fd, ← hs]
    exact Entails.of_eq (((payload_cell P c (some (kLc f s)) 0 Dr.x).trans hp).symm)
  unfold ghL fa pany
  iintro ⟨#HE, ⟨Ht, Ha⟩, Hs, %g0, Hd⟩ Hk
  ihave Hs := (Entails.of_eq hs) $$ Hs
  ihave Hd := (Entails.of_eq (hd g0)) $$ Hd
  iapply (Rounds.wp_copy_pointsTo 𝒱₀ ER (rd P) (c : Thread nD τ) none (src := sl b ![r, c0 f] (lnr s) (cw f) h) (dst := sl b' ![r', c0 f] (lnr s) (cw f) h')
      (sem := .dma (lcS f s)) (q := q) (fs := ext b g) (fd := ext b' g0) (r := 0) (d := Dr.x) (κ := K (cell c (some (kLc f s))))
      (mem_duties P c (kLc f s)) () (lcr f s) (amount _ _ _ _ _ _) (amount_cell P c (some (kLc f s)) 0 Dr.x) (hpay _)) $$ [Hs Hd Ht]
  · isplitr; · iapply (env_inv P K c c (some (kLc f s))); iexact HE
    isplitl [Hs]; · iexact Hs
    isplitl [Hd]; · iexact Hd
    isplitl [Ht]; · iexact Ht
    iapply (env_own P K c (kLc f s)); iexact HE
  iintro Hc
  iapply Hk
  unfold flL
  isplitl [Ha]; · iexact Ha
  iexact Hc

set_option maxHeartbeats 800000 in
theorem locWait_runs (f : Fl) (s : Fin 3) (c : Dev nD) (l : List (Fl × St)) (b b' : Bf) (off off' : Fin 2 → Nat) (n : Nat) (h : Inb b off n (cw f)) (h' : Inb b' off' n (cw f))
    (hn : lnr s = n) (k : PG F) (Q : PUnit → sProp 𝕄) :
    iprop(Env P K c ∗ flL c f s ∗ ow c (dues c l))
      ⊢ iprop((iprop(semVal (cell c (some (kLc f s))) 0 ∗ ow c (dues c l) ∗ lcP P f c s) -∗ Runs c k Q)
          -∗ Runs c (locWait b b' off off' n (cw f) h h' (lcS f s) k) Q) := by
  subst hn
  have hp1 : (bigSep ((rd P).duties ((c : Thread nD τ), SemLoc.dma (lcS f s)) 0 \ ∅)
        fun d => (rd P).payload ((c : Thread nD τ), SemLoc.dma (lcS f s)) 0 d) ⊢ lcP P f c s :=
    Entails.of_eq (rest_cell P c (kLc f s))
  have hm1 : Env P K c ⊢ MayWait (c : Thread nD τ) (.dma (lcS f s)) () (dues c l) :=
    mayWait_copy P K (kLc f s) c l (fun x hx => by show 0 < 2 * pos x + 2; omega)
  unfold flL ow
  iintro ⟨#HE, ⟨Ha, Hc⟩, ⟨%W, HO⟩⟩ Hk
  iapply (Rounds.wp_wait_rest_token 𝒱₀ ER (rd P) (c : Thread nD τ) none (κ := K (cell c (some (kLc f s))))
      (wpE_waitDma2_eq 𝒱₀ (c : Thread nD τ) none Set.univ) (Set.mem_univ _) () (O := dues c l) (W := W) (R := 0) (m := 0) (T := ∅)
      ((Nat.zero_add _).trans ((credit _ _ _ _ _).trans (expect_cell P c (kLc f s)).symm))) $$ [Hc HO Ha]
  · isplitr; · iapply (env_inv P K c c (some (kLc f s))); iexact HE
    isplitl [Hc]
    · rw [credit]; iexact Hc
    isplitl [HO]; · iexact HO
    isplitr; · iapply hm1; iexact HE
    iexact Ha
  iintro ⟨HO, Ha, -, Hpay⟩
  ihave Hs := hp1 $$ Hpay
  imod (closed P K c (some (kLc f s))) $$ [Ha] with H0
  · isplitr; · iexact HE
    iexact Ha
  iapply Hk
  isplitl [H0]; · iexact H0
  isplitl [HO]; · iexists _; iexact HO
  iexact Hs

/-! ## Adding a landed block -/

set_option maxHeartbeats 800000 in
theorem addB_runs (f : Fl) (c : Dev nD) (off offr : Fin 2 → Nat) (n : Nat) (h : Inb .acc off n (cw f)) (h' : Inb .recv offr n (cw f))
    (hn : 0 < (⟨2, ![n, cw f]⟩ : Shape).numel) (r r' : Nat) (ho : off = ![r, c0 f]) (ho' : offr = ![r', c0 f])
    (g g' g'' : ℕ → ℕ → Elt F .f32) (hg : ∀ i j, i < n → j < cw f → fadd (g (r + i) (c0 f + j)) (g' (r' + i) (c0 f + j)) = g'' (r + i) (c0 f + j))
    (k : PG F) (Q : PUnit → sProp 𝕄) :
    iprop(fp c .acc fullShare f r n g ∗ fp c .recv fullShare f r' n g')
      ⊢ iprop((iprop(fp c .acc fullShare f r n g'' ∗ fp c .recv fullShare f r' n g') -∗ Runs c k Q)
          -∗ Runs c (addB off offr n (cw f) h h' hn k) Q) := by
  subst ho ho'
  have ha (g : ℕ → ℕ → Elt F .f32) : (fp c .acc fullShare f r n g : sProp 𝕄)
      = ((Memref.whole cc0_scratch0).access (rct .acc ![r, c0 f] n (cw f) h)).loc (c : Thread nD τ)
          ↦[((Memref.whole cc0_scratch0).access (rct .acc ![r, c0 f] n (cw f) h)).set]{fullShare} ext .acc g :=
    piece_sl c .acc fullShare ![r, c0 f] n (cw f) h g
  have hr (g : ℕ → ℕ → Elt F .f32) : (fp c .recv fullShare f r' n g : sProp 𝕄)
      = ((Memref.whole cc0_scratch1).access (rct .recv ![r', c0 f] n (cw f) h')).loc (c : Thread nD τ)
          ↦[((Memref.whole cc0_scratch1).access (rct .recv ![r', c0 f] n (cw f) h')).set]{fullShare} ext .recv g :=
    piece_sl c .recv fullShare ![r', c0 f] n (cw f) h' g
  have hw (v : (⟨2, ![n, cw f]⟩ : Shape).Idx → Elt F .f32) (hv : ∀ j, v j = g'' (r + (j 0).val) (c0 f + (j 1).val))
      (f0 : (mem .acc).view.ty.Contents (Elt F)) :
      (((Memref.whole cc0_scratch0).access (rct .acc ![r, c0 f] n (cw f) h)).loc (c : Thread nD τ)
          ↦[((Memref.whole cc0_scratch0).access (rct .acc ![r, c0 f] n (cw f) h)).set]{fullShare}
            ((Memref.whole cc0_scratch0).access (rct .acc ![r, c0 f] n (cw f) h)).write (Elt F) f0 v Finset.univ : sProp 𝕄)
        = fp c .acc fullShare f r n g'' := by
    rw [ha g'']
    exact pointsTo_congr fun i hi => sl_write (b := .acc) (off := ![r, c0 f]) (h := h) f0 v g'' hv i (by rw [← sl_set (h := h)]; exact hi)
  have hv (j : (⟨2, ![n, cw f]⟩ : Shape).Idx) : shapeCast (⟨2, ![n, cw f]⟩ : Shape) (addf (s := (⟨2, ![n, cw f]⟩ : Shape)) (φ := .f32)
        (((Memref.whole cc0_scratch0).access (rct .acc ![r, c0 f] n (cw f) h)).read (Elt F) (ext .acc g))
        (((Memref.whole cc0_scratch1).access (rct .recv ![r', c0 f] n (cw f) h')).read (Elt F) (ext .recv g'))) rfl j
      = g'' (r + (j 0).val) (c0 f + (j 1).val) := by
    rw [shapeCast_self]
    show fadd ((sl .acc ![r, c0 f] n (cw f) h).view.read (Elt F) (ext .acc g) j) ((sl .recv ![r', c0 f] n (cw f) h').view.read (Elt F) (ext .recv g') j) = _
    rw [sl_read, sl_read]
    exact hg _ _ (j 0).isLt (j 1).isLt
  unfold addB
  iintro ⟨Ha, Hr⟩ Hk
  ihave Ha := (Entails.of_eq (ha g)) $$ Ha
  ihave Hr := (Entails.of_eq (hr g')) $$ Hr
  iapply (wp_load_rect 𝒱₀ (c : Thread nD τ) none Set.univ (m := Memref.whole cc0_scratch0) (r := rct .acc ![r, c0 f] n (cw f) h) subset_rfl) $$ [Ha]
  · iexact Ha
  iintro Ha
  iapply (wp_load_rect 𝒱₀ (c : Thread nD τ) none Set.univ (m := Memref.whole cc0_scratch1) (r := rct .recv ![r', c0 f] n (cw f) h') subset_rfl) $$ [Hr]
  · iexact Hr
  iintro Hr
  iapply (wp_load_rect 𝒱₀ (c : Thread nD τ) none Set.univ (m := Memref.whole cc0_scratch0) (r := rct .acc ![r, c0 f] n (cw f) h) subset_rfl) $$ [Ha]
  · iexact Ha
  iintro Ha
  iapply (wp_store 𝒱₀ (c : Thread nD τ) none Set.univ (m := Memref.whole cc0_scratch0) (r := rct .acc ![r, c0 f] n (cw f) h) subset_rfl) $$ [Ha]
  · iexact Ha
  iintro Ha
  iapply Hk
  isplitl [Ha]
  · iapply (Entails.of_eq (hw _ hv _)); iexact Ha
  · iapply (Entails.of_eq (hr g').symm); iexact Hr

end Cert.KernelIdeal.Own
-- ==== Proof.Flow.lean ====
module

public import proofs.«01_k».proof.Proof.Steps

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! The memory of one flow, before and during each of its transfers. -/

variable (P : Dev nD → ℕ → ℕ → Elt F .f32)

/-! ## Rows kept and rows given away -/

/-- The rows kept so far are those kept next and those given away next. -/
theorem fp_halve (c : Dev nD) (b : Bf) (q : PosShare TreeShare) (f : Fl) (j : Fin 4) (a n m : ℕ) (ha : a ≤ kr f c j) (hn : half j = n) (hm : m = n + n)
    (g : ℕ → ℕ → Elt F .f32) :
    (fp c b q f (kr f c j - a) m g : sProp 𝕄) = iprop(fp c b q f (kr f c (j + 1) - a) n g ∗ fp c b q f (gr f c j - a) n g) := by
  subst hm hn
  rw [show (fp c b q f (kr f c j - a) (half j + half j) g : sProp 𝕄) = _ from piece_rows c b q _ _ _ _ _ g]
  rcases halves f j c with ⟨h1, h2⟩ | ⟨h1, h2⟩
  · rw [h1, h2, show kr f c j + half j - a = kr f c j - a + half j by omega]
  · rw [h1, h2, show kr f c j + half j - a = kr f c j - a + half j by omega]
    exact BI.equiv_iff.mp ⟨sep_comm, sep_comm⟩

theorem fa_halve (c : Dev nD) (b : Bf) (f : Fl) (j : Fin 4) (a n m : ℕ) (ha : a ≤ kr f c j) (hn : half j = n) (hm : m = n + n) :
    (fa c b f (kr f c j - a) m : sProp 𝕄) = iprop(fa c b f (kr f c (j + 1) - a) n ∗ fa c b f (gr f c j - a) n) := by
  subst hm hn
  rw [show (fa c b f (kr f c j - a) (half j + half j) : sProp 𝕄) = _ from pany_rows c b _ _ _ _ _]
  rcases halves f j c with ⟨h1, h2⟩ | ⟨h1, h2⟩
  · rw [h1, h2, show kr f c j + half j - a = kr f c j - a + half j by omega]
  · rw [h1, h2, show kr f c j + half j - a = kr f c j - a + half j by omega]
    exact BI.equiv_iff.mp ⟨sep_comm, sep_comm⟩

theorem sh_zero (g : ℕ → ℕ → Elt F .f32) : sh 0 g = g := by
  funext r k; unfold sh; rw [Nat.zero_add]

/-! ## The states -/

/-- One of the local copies' semaphores, at rest. -/
abbrev lc0 (c : Dev nD) (f : Fl) (s : Fin 3) : sProp 𝕄 := semVal (cell c (some (kLc f s))) 0

/-- The product whole and two of the local copies over. -/
def stB (f : Fl) (c : Dev nD) : sProp 𝕄 := iprop(lc0 c f 0 ∗ lc0 c f 1 ∗ fp c .p fullShare f 0 4096 (P c))
/-- With the result not begun. -/
def stC (f : Fl) (c : Dev nD) : sProp 𝕄 := iprop(stB P f c ∗ ghL c f 2 ∗ fa c .o f 0 4096)
/-- With the accumulator and the landing area no longer needed. -/
def stD (f : Fl) (c : Dev nD) : sProp 𝕄 := iprop(stB P f c ∗ lc0 c f 2 ∗ fa c .acc f 0 2048 ∗ fa c .recv f 0 1024)

/-- The partial sums in some rows of the accumulator. -/
abbrev ac (f : Fl) (c : Dev nD) (r n j : ℕ) : sProp 𝕄 := fp c .acc fullShare f (r - kr f c 1) n (sh (kr f c 1) (ps P f j c))
/-- Rows of the accumulator no longer needed. -/
abbrev aj (f : Fl) (c : Dev nD) (r n : ℕ) : sProp 𝕄 := fa (F := F) c .acc f (r - kr f c 1) n

/-- Before a transfer is issued, the local copies that go with it under way. -/
def mm (f : Fl) (c : Dev nD) : St → sProp 𝕄
  | .s0 => iprop(flL c f 0 ∗ flL c f 1 ∗ ghL c f 2 ∗ fp c .p fullShare f (gr f c 0) 1024 (P c) ∗ fp c .p fullShare f (gr f c 0 + 1024) 1024 (P c)
      ∗ fa c .recv f 0 1024 ∗ fa c .o f 0 4096)
  | .s1 => iprop(lc0 c f 0 ∗ flL c f 1 ∗ ghL c f 2 ∗ fp c .acc fullShare f 0 1024 (sh (kr f c 1) (ps P f 1 c)) ∗ fp c .p fullShare f (gr f c 0) 1024 (P c)
      ∗ fp c .p fullShare f (kr f c 1) 1024 (P c) ∗ fp c .p fullShare f (gr f c 0 + 1024) 1024 (P c) ∗ fa c .recv f 0 1024 ∗ fa c .o f 0 4096)
  | .s2 => iprop(stC P f c ∗ ac P f c (kr f c 1) 2048 1 ∗ fa c .recv f 0 1024)
  | .s3 => iprop(stC P f c ∗ aj f c (gr f c 1) 1024 ∗ ac P f c (kr f c 2) 1024 2 ∗ fa c .recv f 0 1024)
  | .s4 => iprop(stC P f c ∗ aj f c (gr f c 1) 1024 ∗ aj f c (gr f c 2) 512 ∗ ac P f c (kr f c 3) 512 3 ∗ fa c .recv f 0 512 ∗ fa c .recv f 512 512)
  | .s5 => iprop(stB P f c ∗ flL c f 2 ∗ fp c .acc fullShare.right f (kr f c 4 - kr f c 1) 256 (sh (kr f c 1) (tot P f))
      ∗ aj f c (gr f c 1) 1024 ∗ aj f c (gr f c 2) 512 ∗ aj f c (gr f c 3) 256 ∗ fa c .recv f 0 1024
      ∗ fa c .o f (gr f c 3) 256 ∗ fa c .o f (gr f c 2) 512 ∗ fa c .o f (gr f c 1) 1024 ∗ fa c .o f (gr f c 0) 2048)
  | .s6 => iprop(stD P f c ∗ fp c .o fullShare f (kr f c 3) 512 (tot P f) ∗ fa c .o f (gr f c 2) 512 ∗ fa c .o f (gr f c 1) 1024 ∗ fa c .o f (gr f c 0) 2048)
  | .s7 => iprop(stD P f c ∗ fp c .o fullShare f (kr f c 2) 1024 (tot P f) ∗ fa c .o f (gr f c 1) 1024 ∗ fa c .o f (gr f c 0) 2048)
  | .s8 => iprop(stD P f c ∗ fp c .o fullShare f (kr f c 1) 2048 (tot P f) ∗ fa c .o f (gr f c 0) 2048)

/-- While it is under way. -/
def rs (f : Fl) (c : Dev nD) : St → sProp 𝕄
  | .s0 => iprop(flL c f 0 ∗ flL c f 1 ∗ ghL c f 2 ∗ fp c .p fullShare f (gr f c 0 + 1024) 1024 (P c) ∗ fa c .o f 0 4096)
  | .s1 => iprop(lc0 c f 0 ∗ flL c f 1 ∗ ghL c f 2 ∗ fp c .acc fullShare f 0 1024 (sh (kr f c 1) (ps P f 1 c)) ∗ fp c .p fullShare f (gr f c 0) 1024 (P c)
      ∗ fp c .p fullShare f (kr f c 1) 1024 (P c) ∗ fa c .o f 0 4096)
  | .s2 => iprop(stC P f c ∗ ac P f c (kr f c 2) 1024 1)
  | .s3 => iprop(stC P f c ∗ aj f c (gr f c 1) 1024 ∗ ac P f c (kr f c 3) 512 2 ∗ fa c .recv f 512 512)
  | .s4 => iprop(stC P f c ∗ aj f c (gr f c 1) 1024 ∗ aj f c (gr f c 2) 512 ∗ ac P f c (kr f c 4) 256 3 ∗ fa c .recv f 256 256 ∗ fa c .recv f 512 512)
  | .s5 => iprop(stB P f c ∗ flL c f 2
      ∗ aj f c (gr f c 1) 1024 ∗ aj f c (gr f c 2) 512 ∗ aj f c (gr f c 3) 256 ∗ fa c .recv f 0 1024
      ∗ fa c .o f (gr f c 2) 512 ∗ fa c .o f (gr f c 1) 1024 ∗ fa c .o f (gr f c 0) 2048)
  | .s6 => iprop(stD P f c ∗ fa c .o f (gr f c 1) 1024 ∗ fa c .o f (gr f c 0) 2048)
  | .s7 => iprop(stD P f c ∗ fa c .o f (gr f c 0) 2048)
  | .s8 => iprop(stD P f c)

/-- Before a transfer, and before the local copies that go with it. -/
def bf (f : Fl) (c : Dev nD) : St → sProp 𝕄
  | .s0 => iprop(fp c .p fullShare f 0 4096 (P c) ∗ fa c .acc f 0 2048 ∗ fa c .recv f 0 1024 ∗ fa c .o f 0 4096 ∗ ghL c f 0 ∗ ghL c f 1 ∗ ghL c f 2)
  | .s5 => iprop(stC P f c ∗ aj f c (gr f c 1) 1024 ∗ aj f c (gr f c 2) 512 ∗ aj f c (gr f c 3) 256
      ∗ fp c .acc fullShare f (kr f c 4 - kr f c 1) 256 (sh (kr f c 1) (tot P f)) ∗ fa c .recv f 0 1024)
  | w => mm P f c w

/-- At the end. -/
def en (f : Fl) (c : Dev nD) : sProp 𝕄 := iprop(stD P f c ∗ fp c .o fullShare f 0 4096 (tot P f))

/-! ## What a transfer takes and brings, at each step -/

theorem src0 (f : Fl) (c : Dev nD) : srcP P f .s0 c = fp c .p fullShare f (gr f c 0) 1024 (P c) := by
  show fp c .p fullShare f (gr f c 0) 1024 (sh 0 (P c)) = _; rw [sh_zero]
theorem src1 (f : Fl) (c : Dev nD) : srcP P f .s1 c = fp c .p fullShare f (gr f c 0 + 1024) 1024 (P c) := by
  show fp c .p fullShare f (gr f c 0 + 1024) 1024 (sh 0 (P c)) = _; rw [sh_zero]
theorem src2 (f : Fl) (c : Dev nD) : srcP P f .s2 c = ac P f c (gr f c 1) 1024 1 := rfl
theorem src3 (f : Fl) (c : Dev nD) : srcP P f .s3 c = ac P f c (gr f c 2) 512 2 := rfl
theorem src4 (f : Fl) (c : Dev nD) : srcP P f .s4 c = ac P f c (gr f c 3) 256 3 := rfl
theorem src5 (f : Fl) (c : Dev nD) : srcP P f .s5 c = fp c .acc fullShare.right f (kr f c 4 - kr f c 1) 256 (sh (kr f c 1) (tot P f)) := rfl
theorem src6 (f : Fl) (c : Dev nD) : srcP P f .s6 c = fp c .o fullShare f (kr f c 3) 512 (tot P f) := by
  show fp c .o fullShare f (kr f c 3) 512 (sh 0 (tot P f)) = _; rw [sh_zero]
theorem src7 (f : Fl) (c : Dev nD) : srcP P f .s7 c = fp c .o fullShare f (kr f c 2) 1024 (tot P f) := by
  show fp c .o fullShare f (kr f c 2) 1024 (sh 0 (tot P f)) = _; rw [sh_zero]
theorem src8 (f : Fl) (c : Dev nD) : srcP P f .s8 c = fp c .o fullShare f (kr f c 1) 2048 (tot P f) := by
  show fp c .o fullShare f (kr f c 1) 2048 (sh 0 (tot P f)) = _; rw [sh_zero]

/-- The row a landing area's row 0 stands for is the first row the receiver adds to. -/
theorem dbase_add (f : Fl) (w : St) (hw : si w < 5) (c : Dev nD) : dbase f (pt f w c) w = kr f c 1 + arow f c w ∧ drow f (pt f w c) w = 0 ∧ arow f c w + nr w ≤ 2048 := by
  revert c; revert hw; revert w; revert f; decide +kernel
/-- In the second half of the transfers a device receives the rows it once gave away. -/
theorem drow_out (f : Fl) (c : Dev nD) : drow f (pt f .s5 c) .s5 = gr f c 3 ∧ drow f (pt f .s6 c) .s6 = gr f c 2
    ∧ drow f (pt f .s7 c) .s7 = gr f c 1 ∧ drow f (pt f .s8 c) .s8 = gr f c 0 := by
  revert c; revert f; decide +kernel

theorem lnd_add (f : Fl) (w : St) (hw : si w < 5) (c : Dev nD) :
    lndP P f w c = fp c (dstB w) fullShare f 0 (nr w) (sh (kr f c 1 + arow f c w) (cont P f (pt f w c) w)) := by
  unfold lndP; rw [(dbase_add f w hw c).1, (dbase_add f w hw c).2.1]
theorem lnd5 (f : Fl) (c : Dev nD) : lndP P f .s5 c = fp c .o fullShare f (gr f c 3) 256 (tot P f) := by
  show fp c .o fullShare f (drow f (pt f .s5 c) .s5) 256 (sh 0 (tot P f)) = _; rw [sh_zero, (drow_out f c).1]
theorem lnd6 (f : Fl) (c : Dev nD) : lndP P f .s6 c = fp c .o fullShare f (gr f c 2) 512 (tot P f) := by
  show fp c .o fullShare f (drow f (pt f .s6 c) .s6) 512 (sh 0 (tot P f)) = _; rw [sh_zero, (drow_out f c).2.1]
theorem lnd7 (f : Fl) (c : Dev nD) : lndP P f .s7 c = fp c .o fullShare f (gr f c 1) 1024 (tot P f) := by
  show fp c .o fullShare f (drow f (pt f .s7 c) .s7) 1024 (sh 0 (tot P f)) = _; rw [sh_zero, (drow_out f c).2.2.1]
theorem lnd8 (f : Fl) (c : Dev nD) : lndP P f .s8 c = fp c .o fullShare f (gr f c 0) 2048 (tot P f) := by
  show fp c .o fullShare f (drow f (pt f .s8 c) .s8) 2048 (sh 0 (tot P f)) = _; rw [sh_zero, (drow_out f c).2.2.2]

/-! ## Cutting and joining -/

theorem p_parts (f : Fl) (c : Dev nD) (b : Bf) (g : ℕ → ℕ → Elt F .f32) : (fp c b fullShare f 0 4096 g : sProp 𝕄)
    = iprop((fp c b fullShare f (kr f c 1) 1024 g ∗ fp c b fullShare f (kr f c 1 + 1024) 1024 g)
        ∗ (fp c b fullShare f (gr f c 0) 1024 g ∗ fp c b fullShare f (gr f c 0 + 1024) 1024 g)) := by
  rw [show (fp c b fullShare f 0 4096 g : sProp 𝕄) = iprop(fp c b fullShare f (kr f c 1) 2048 g ∗ fp c b fullShare f (gr f c 0) 2048 g) from
    fp_halve c b fullShare f 0 0 2048 4096 (Nat.zero_le _) rfl rfl g]
  exact congrArg₂ _ (piece_rows c b fullShare _ 1024 1024 _ _ g) (piece_rows c b fullShare _ 1024 1024 _ _ g)

theorem kr_ge (f : Fl) (c : Dev nD) (j : Fin 4) (hj : j ≠ 0) : kr f c 1 ≤ kr f c j := by
  revert hj; revert j; revert c; revert f; decide +kernel

theorem acc_halve (f : Fl) (c : Dev nD) (j : Fin 4) (a b n m i : ℕ) (hj : j ≠ 0) (ha : j.val = a) (hb : a + 1 = b) (hn : half a = n) (hm : m = n + n) :
    ac P f c (kr f c a) m i = iprop(ac P f c (kr f c b) n i ∗ ac P f c (gr f c a) n i) := by
  subst ha hb
  exact fp_halve c .acc fullShare f j _ n m (kr_ge f c j hj) hn hm _
theorem junk_halve (f : Fl) (c : Dev nD) (j : Fin 4) (a b n m : ℕ) (hj : j ≠ 0) (ha : j.val = a) (hb : a + 1 = b) (hn : half a = n) (hm : m = n + n) :
    (aj f c (kr f c a) m : sProp 𝕄) = iprop(aj f c (kr f c b) n ∗ aj f c (gr f c a) n) := by
  subst ha hb
  exact fa_halve c .acc f j _ n m (kr_ge f c j hj) hn hm

/-- A transfer issued takes its source and lets the partner write where it will. -/
theorem give (f : Fl) (w : St) (c : Dev nD) :
    mm P f c w ⊢ iprop(fa c (dstB w) f (drow f (pt f w c) w) (nr w) ∗ srcP P f w c ∗ rs P f c w) := by
  cases w
  · rw [src0]
    show mm P f c .s0 ⊢ iprop(fa c .recv f 0 1024 ∗ _ ∗ _)
    unfold mm rs
    iintro ⟨H1, H2, H3, H4, H5, H6, H7⟩
    isplitl [H6]; · iexact H6
    isplitl [H4]; · iexact H4
    isplitl [H1]; · iexact H1
    isplitl [H2]; · iexact H2
    isplitl [H3]; · iexact H3
    isplitl [H5]; · iexact H5
    iexact H7
  · rw [src1]
    show mm P f c .s1 ⊢ iprop(fa c .recv f 0 1024 ∗ _ ∗ _)
    unfold mm rs
    iintro ⟨H1, H2, H3, H4, H5, H6, H7, H8, H9⟩
    isplitl [H8]; · iexact H8
    isplitl [H7]; · iexact H7
    isplitl [H1]; · iexact H1
    isplitl [H2]; · iexact H2
    isplitl [H3]; · iexact H3
    isplitl [H4]; · iexact H4
    isplitl [H5]; · iexact H5
    isplitl [H6]; · iexact H6
    iexact H9
  · rw [src2]
    show mm P f c .s2 ⊢ iprop(fa c .recv f 0 1024 ∗ _ ∗ _)
    have h := acc_halve P f c 1 1 2 1024 2048 1 (by decide) rfl rfl rfl rfl
    unfold mm rs
    iintro ⟨H1, H2, H3⟩
    ihave H2 := (Entails.of_eq h) $$ H2
    icases H2 with ⟨H4, H5⟩
    isplitl [H3]; · iexact H3
    isplitl [H5]; · iexact H5
    isplitl [H1]; · iexact H1
    iexact H4
  · rw [src3]
    show mm P f c .s3 ⊢ iprop(fa c .recv f 0 512 ∗ _ ∗ _)
    have h := acc_halve P f c 2 2 3 512 1024 2 (by decide) rfl rfl rfl rfl
    have h' : (fa c .recv f 0 1024 : sProp 𝕄) = iprop(fa c .recv f 0 512 ∗ fa c .recv f 512 512) := pany_rows c .recv 0 512 512 _ _
    unfold mm rs
    iintro ⟨H1, H2, H3, H4⟩
    ihave H3 := (Entails.of_eq h) $$ H3
    icases H3 with ⟨H5, H6⟩
    ihave H4 := (Entails.of_eq h') $$ H4
    icases H4 with ⟨H7, H8⟩
    isplitl [H7]; · iexact H7
    isplitl [H6]; · iexact H6
    isplitl [H1]; · iexact H1
    isplitl [H2]; · iexact H2
    isplitl [H5]; · iexact H5
    iexact H8
  · rw [src4]
    show mm P f c .s4 ⊢ iprop(fa c .recv f 0 256 ∗ _ ∗ _)
    have h := acc_halve P f c 3 3 4 256 512 3 (by decide) rfl rfl rfl rfl
    have h' : (fa c .recv f 0 512 : sProp 𝕄) = iprop(fa c .recv f 0 256 ∗ fa c .recv f 256 256) := pany_rows c .recv 0 256 256 _ _
    unfold mm rs
    iintro ⟨H1, H2, H3, H4, H5, H6⟩
    ihave H4 := (Entails.of_eq h) $$ H4
    icases H4 with ⟨H7, H8⟩
    ihave H5 := (Entails.of_eq h') $$ H5
    icases H5 with ⟨H9, HA⟩
    isplitl [H9]; · iexact H9
    isplitl [H8]; · iexact H8
    isplitl [H1]; · iexact H1
    isplitl [H2]; · iexact H2
    isplitl [H3]; · iexact H3
    isplitl [H7]; · iexact H7
    isplitl [HA]; · iexact HA
    iexact H6
  · rw [src5, (drow_out f c).1]
    show mm P f c .s5 ⊢ iprop(fa c .o f (gr f c 3) 256 ∗ _ ∗ _)
    unfold mm rs
    iintro ⟨H1, H2, H3, H4, H5, H6, H7, H8, H9⟩
    isplitl [H8]; · iexact H8
    isplitl [H3]; · iexact H3
    isplitl [H1]; · iexact H1
    isplitl [H2]; · iexact H2
    isplitl [H4]; · iexact H4
    isplitl [H5]; · iexact H5
    isplitl [H6]; · iexact H6
    isplitl [H7]; · iexact H7
    iexact H9
  · rw [src6, (drow_out f c).2.1]
    show mm P f c .s6 ⊢ iprop(fa c .o f (gr f c 2) 512 ∗ _ ∗ _)
    unfold mm rs
    iintro ⟨H1, H2, H3, H4⟩
    isplitl [H3]; · iexact H3
    isplitl [H2]; · iexact H2
    isplitl [H1]; · iexact H1
    iexact H4
  · rw [src7, (drow_out f c).2.2.1]
    show mm P f c .s7 ⊢ iprop(fa c .o f (gr f c 1) 1024 ∗ _ ∗ _)
    unfold mm rs
    iintro ⟨H1, H2, H3, H4⟩
    isplitl [H3]; · iexact H3
    isplitl [H2]; · iexact H2
    isplitl [H1]; · iexact H1
    iexact H4
  · rw [src8, (drow_out f c).2.2.2]
    show mm P f c .s8 ⊢ iprop(fa c .o f (gr f c 0) 2048 ∗ _ ∗ _)
    unfold mm rs
    iintro ⟨H1, H2, H3⟩
    isplitl [H3]; · iexact H3
    isplitl [H2]; · iexact H2
    iexact H1

end Cert.KernelIdeal.Own
-- ==== Proof.Blocks.lean ====
module

public import proofs.«01_k».proof.Proof.Flow

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! The blocks of the body, for any flow and any device. -/

variable (P : Dev nD → ℕ → ℕ → Elt F .f32) (K : GSem nD τ sig → ℕ)

/-! ## Issuing -/

/-- A transfer that needs no local copy of its own. -/
theorem send_runs (f : Fl) (w : St) (c : Dev nD) (l : List (Fl × St)) (hl : ∀ x ∈ l, pos (f, w) < pos x)
    (k : PG F) (Q : PUnit → sProp 𝕄) :
    iprop(Env P K c ∗ gh c f w ∗ ow c (dues c ((f, w) :: l)) ∗ mm P f c w)
      ⊢ iprop((iprop(fl c f w ∗ ow c (dues c l) ∗ rs P f c w) -∗ Runs c k Q) -∗ Runs c (issueR f w c k) Q) := by
  iintro ⟨#HE, Hg, HO, Hm⟩ Hk
  ihave Hm := (give P f w c) $$ Hm
  icases Hm with ⟨Hd, Hs, Hr⟩
  iapply (issueR_runs P K f w c l hl k Q) $$ [Hg HO Hd Hs]
  · isplitr; · iexact HE
    isplitl [Hg]; · iexact Hg
    isplitl [HO]; · iexact HO
    isplitl [Hd]; · iexact Hd
    iexact Hs
  iintro ⟨Hf, HO⟩
  iapply Hk
  isplitl [Hf]; · iexact Hf
  isplitl [HO]; · iexact HO
  iexact Hr

theorem kr_four (f : Fl) (c : Dev nD) : kr f c 1 ≤ kr f c 4 := by revert c; revert f; decide +kernel

/-- Issuing any transfer. -/
theorem issue_runs (f : Fl) (w : St) (c : Dev nD) (l : List (Fl × St)) (hl : ∀ x ∈ l, pos (f, w) < pos x)
    (k : PG F) (Q : PUnit → sProp 𝕄) :
    iprop(Env P K c ∗ gh c f w ∗ ow c (dues c ((f, w) :: l)) ∗ bf P f c w)
      ⊢ iprop((iprop(fl c f w ∗ ow c (dues c l) ∗ rs P f c w) -∗ Runs c k Q) -∗ Runs c (issue f c w k) Q) := by
  cases w
  case s0 =>
    have h1 := p_parts f c .p (P c)
    have h2 : (fa c .acc f 0 2048 : sProp 𝕄) = iprop(fa c .acc f 0 1024 ∗ fa c .acc f 1024 1024) := pany_rows c .acc 0 1024 1024 _ _
    unfold bf issue locIn
    iintro ⟨#HE, Hg, HO, Hp, Ha, Hr, Ho, HL0, HL1, HL2⟩ Hk
    ihave Hp := (Entails.of_eq h1) $$ Hp
    icases Hp with ⟨⟨Hp1, Hp2⟩, Hp3, Hp4⟩
    ihave Ha := (Entails.of_eq h2) $$ Ha
    icases Ha with ⟨Ha1, Ha2⟩
    iapply (locCopy_runs P K f 0 c .p .acc (locOff f false c) (lacOff f false) 1024 _ _ fullShare (kr f c 1) 0 (locOff_eq f false c) (lacOff_eq f false) rfl
      (P c) (sh (kr f c 1) (P c)) (fun i j _ _ => by unfold sh; rw [Nat.zero_add]) rfl _ Q) $$ [HL0 Hp1 Ha1]
    · isplitr; · iexact HE
      isplitl [HL0]; · iexact HL0
      isplitl [Hp1]; · iexact Hp1
      iexact Ha1
    iintro HL0
    iapply (locCopy_runs P K f 1 c .p .acc (locOff f true c) (lacOff f true) 1024 _ _ fullShare (kr f c 1 + 1024) 1024 (locOff_eq f true c) (lacOff_eq f true) rfl
      (P c) (sh (kr f c 1) (P c)) (fun i j _ _ => by unfold sh; rw [Nat.add_assoc]) rfl _ Q) $$ [HL1 Hp2 Ha2]
    · isplitr; · iexact HE
      isplitl [HL1]; · iexact HL1
      isplitl [Hp2]; · iexact Hp2
      iexact Ha2
    iintro HL1
    iapply (send_runs P K f .s0 c l hl k Q) $$ [Hg HO Hp3 Hp4 Hr Ho HL0 HL1 HL2]
    · isplitr; · iexact HE
      isplitl [Hg]; · iexact Hg
      isplitl [HO]; · iexact HO
      unfold mm
      isplitl [HL0]; · iexact HL0
      isplitl [HL1]; · iexact HL1
      isplitl [HL2]; · iexact HL2
      isplitl [Hp3]; · iexact Hp3
      isplitl [Hp4]; · iexact Hp4
      isplitl [Hr]; · iexact Hr
      iexact Ho
    iexact Hk
  case s5 =>
    have h1 (a : St) : (fa c .o f 0 4096 : sProp 𝕄) = iprop(fa c .o f (kr f c 1) 2048 ∗ fa c .o f (gr f c 0) 2048) :=
      fa_halve c .o f 0 0 2048 4096 (Nat.zero_le _) rfl rfl
    have h2 : (fa c .o f (kr f c 1) 2048 : sProp 𝕄) = iprop(fa c .o f (kr f c 2) 1024 ∗ fa c .o f (gr f c 1) 1024) :=
      fa_halve c .o f 1 0 1024 2048 (Nat.zero_le _) rfl rfl
    have h3 : (fa c .o f (kr f c 2) 1024 : sProp 𝕄) = iprop(fa c .o f (kr f c 3) 512 ∗ fa c .o f (gr f c 2) 512) :=
      fa_halve c .o f 2 0 512 1024 (Nat.zero_le _) rfl rfl
    have h4 : (fa c .o f (kr f c 3) 512 : sProp 𝕄) = iprop(fa c .o f (kr f c 4) 256 ∗ fa c .o f (gr f c 3) 256) :=
      fa_halve c .o f 3 0 256 512 (Nat.zero_le _) rfl rfl
    have h5 := piece_share c .acc (kr f c 4 - kr f c 1) 256 (c0 f) (cw f) (sh (kr f c 1) (tot P f))
    unfold bf issue stC
    iintro ⟨#HE, Hg, HO, ⟨HB, HL, Ho⟩, H1, H2, H3, Ha, Hr⟩ Hk
    ihave Ho := (Entails.of_eq (h1 .s0)) $$ Ho
    icases Ho with ⟨Ho, Ho0⟩
    ihave Ho := (Entails.of_eq h2) $$ Ho
    icases Ho with ⟨Ho, Ho1⟩
    ihave Ho := (Entails.of_eq h3) $$ Ho
    icases Ho with ⟨Ho, Ho2⟩
    ihave Ho := (Entails.of_eq h4) $$ Ho
    icases Ho with ⟨Ho, Ho3⟩
    ihave Ha := (Entails.of_eq h5) $$ Ha
    icases Ha with ⟨Hal, Har⟩
    iapply (locCopy_runs P K f 2 c .acc .o (srcOff f .s5 c) (dstOff f .s5 c) 256 _ _ fullShare.left (kr f c 4 - kr f c 1) (kr f c 4)
      (srcOff_eq f .s5 c) (dstOff_eq f .s5 c) rfl
      (sh (kr f c 1) (tot P f)) (tot P f) (fun i j _ _ => by unfold sh; have := kr_four f c; congr 1; omega) rfl _ Q) $$ [HL Hal Ho]
    · isplitr; · iexact HE
      isplitl [HL]; · iexact HL
      isplitl [Hal]; · iexact Hal
      iexact Ho
    iintro HL
    iapply (send_runs P K f .s5 c l hl k Q) $$ [Hg HO HB HL Har H1 H2 H3 Hr Ho3 Ho2 Ho1 Ho0]
    · isplitr; · iexact HE
      isplitl [Hg]; · iexact Hg
      isplitl [HO]; · iexact HO
      unfold mm
      isplitl [HB]; · iexact HB
      isplitl [HL]; · iexact HL
      isplitl [Har]; · iexact Har
      isplitl [H1]; · iexact H1
      isplitl [H2]; · iexact H2
      isplitl [H3]; · iexact H3
      isplitl [Hr]; · iexact Hr
      isplitl [Ho3]; · iexact Ho3
      isplitl [Ho2]; · iexact Ho2
      isplitl [Ho1]; · iexact Ho1
      iexact Ho0
    iexact Hk
  all_goals exact send_runs P K f _ c l hl k Q

/-! ## Finishing -/

/-- What is there once a transfer is finished. -/
def nx (f : Fl) (c : Dev nD) : St → sProp 𝕄
  | .s0 => bf P f c .s1 | .s1 => bf P f c .s2 | .s2 => bf P f c .s3 | .s3 => bf P f c .s4 | .s4 => bf P f c .s5
  | .s5 => bf P f c .s6 | .s6 => bf P f c .s7 | .s7 => bf P f c .s8 | .s8 => en P f c

/-- Adding what a transfer landed. -/
theorem add_runs (f : Fl) (w : St) (hw : si w < 5) (c : Dev nD) (h' : Inb .recv (dstOff f w c) (nr w) (cw f)) (A B : ℕ → ℕ → Elt F .f32)
    (hd : drow f c w = 0) (hv : ∀ r k, fadd (A r k) (cont P f (pt f w c) w r k) = B r k) (k : PG F) (Q : PUnit → sProp 𝕄) :
    iprop(fp c .acc fullShare f (arow f c w) (nr w) (sh (kr f c 1) A)
        ∗ fp c .recv fullShare f 0 (nr w) (sh (kr f c 1 + arow f c w) (cont P f (pt f w c) w)))
      ⊢ iprop((iprop(fp c .acc fullShare f (arow f c w) (nr w) (sh (kr f c 1) B) ∗ fa c .recv f 0 (nr w)) -∗ Runs c k Q)
          -∗ Runs c (addB (addOff f w c) (dstOff f w c) (nr w) (cw f) (add_inb f w c) h' (numel_pos f w) k) Q) := by
  have h := addB_runs f c (addOff f w c) (dstOff f w c) (nr w) (add_inb f w c) h' (numel_pos f w) (arow f c w) 0
    (addOff_eq f w hw c) (by rw [dstOff_eq, hd]) (sh (kr f c 1) A) (sh (kr f c 1 + arow f c w) (cont P f (pt f w c) w)) (sh (kr f c 1) B)
    (fun i j _ _ => by unfold sh; rw [Nat.zero_add, Nat.add_assoc]; exact hv _ _) k Q
  iintro H Hk
  iapply h $$ [H]; · iexact H
  iintro ⟨H1, H2⟩
  iapply Hk
  isplitl [H1]; · iexact H1
  iapply (piece_any c .recv 0 (nr w) _ _ _); iexact H2

theorem acc_whole (f : Fl) (c : Dev nD) : (aj f c (kr f c 1) 2048 : sProp 𝕄) = fa c .acc f 0 2048 := by
  unfold aj; rw [Nat.sub_self]

set_option maxHeartbeats 1600000 in
/-- Finishing any transfer. -/
theorem fin_runs (f : Fl) (w : St) (c : Dev nD) (l : List (Fl × St)) (hl : ∀ x ∈ l, pos (f, w) < pos x)
    (k : PG F) (Q : PUnit → sProp 𝕄) :
    iprop(Env P K c ∗ fl c f w ∗ ow c (dues c l) ∗ rs P f c w)
      ⊢ iprop((iprop(dn c f w ∗ ow c (dues c l) ∗ nx P f c w) -∗ Runs c k Q) -∗ Runs c (fin f c w k) Q) := by
  cases w
  case s0 =>
    have hl' := lnd_add P f .s0 (by decide) c
    unfold fin rs
    iintro ⟨#HE, Hf, HO, Hm⟩ Hk
    iapply (waits_runs P K f .s0 c l hl _ Q) $$ [Hf HO]
    · isplitr; · iexact HE
      isplitl [Hf]; · iexact Hf
      iexact HO
    iintro ⟨Hn, HO, Hs, Hl⟩
    icases Hm with ⟨H1, H2, H3, H4, H5⟩
    iapply (locWait_runs P K f 0 c l .p .acc _ _ _ _ _ rfl _ Q) $$ [H1 HO]
    · isplitr; · iexact HE
      isplitl [H1]; · iexact H1
      iexact HO
    unfold lcP
    iintro ⟨H1, HO, Ha, Hp⟩
    ihave Hl := (Entails.of_eq hl') $$ Hl
    iapply (add_runs P f .s0 (by decide) c _ (P c) (ps P f 1 c) rfl (fun _ _ => rfl) _ Q) $$ [Ha Hl]
    · isplitl [Ha]; · iexact Ha
      iexact Hl
    iintro ⟨Ha, Hr⟩
    ihave Hs := (Entails.of_eq (src0 P f c)) $$ Hs
    iapply Hk
    isplitl [Hn]; · iexact Hn
    isplitl [HO]; · iexact HO
    unfold nx bf mm
    isplitl [H1]; · iexact H1
    isplitl [H2]; · iexact H2
    isplitl [H3]; · iexact H3
    isplitl [Ha]; · iexact Ha
    isplitl [Hs]; · iexact Hs
    isplitl [Hp]; · iexact Hp
    isplitl [H4]; · iexact H4
    isplitl [Hr]; · iexact Hr
    iexact H5
  case s1 =>
    have hl' := lnd_add P f .s1 (by decide) c
    have h1 := p_parts f c .p (P c)
    have h2 : ac P f c (kr f c 1) 2048 1 = iprop(fp c .acc fullShare f 0 1024 (sh (kr f c 1) (ps P f 1 c)) ∗ fp c .acc fullShare f 1024 1024 (sh (kr f c 1) (ps P f 1 c))) := by
      unfold ac; rw [Nat.sub_self]
      exact (piece_rows c .acc fullShare 0 1024 1024 _ _ _).trans (by rw [Nat.zero_add])
    unfold fin rs
    iintro ⟨#HE, Hf, HO, Hm⟩ Hk
    iapply (waits_runs P K f .s1 c l hl _ Q) $$ [Hf HO]
    · isplitr; · iexact HE
      isplitl [Hf]; · iexact Hf
      iexact HO
    iintro ⟨Hn, HO, Hs, Hl⟩
    icases Hm with ⟨H1, H2, H3, H4, H5, H6, H7⟩
    iapply (locWait_runs P K f 1 c l .p .acc _ _ _ _ _ rfl _ Q) $$ [H2 HO]
    · isplitr; · iexact HE
      isplitl [H2]; · iexact H2
      iexact HO
    unfold lcP
    iintro ⟨H2, HO, Ha, Hp⟩
    ihave Hl := (Entails.of_eq hl') $$ Hl
    iapply (add_runs P f .s1 (by decide) c _ (P c) (ps P f 1 c) rfl (fun _ _ => rfl) _ Q) $$ [Ha Hl]
    · isplitl [Ha]; · iexact Ha
      iexact Hl
    iintro ⟨Ha, Hr⟩
    ihave Hs := (Entails.of_eq (src1 P f c)) $$ Hs
    iapply Hk
    isplitl [Hn]; · iexact Hn
    isplitl [HO]; · iexact HO
    unfold nx bf mm stC stB
    isplitl [H1 H2 H3 H5 H6 H7 Hp Hs]
    · isplitl [H1 H2 H5 H6 Hp Hs]
      · isplitl [H1]; · iexact H1
        isplitl [H2]; · iexact H2
        iapply (Entails.of_eq h1.symm)
        isplitl [H6 Hp]
        · isplitl [H6]; · iexact H6
          iexact Hp
        isplitl [H5]; · iexact H5
        iexact Hs
      isplitl [H3]; · iexact H3
      iexact H7
    isplitl [H4 Ha]
    · iapply (Entails.of_eq h2.symm)
      isplitl [H4]; · iexact H4
      iexact Ha
    iexact Hr
  case s2 =>
    have hl' := lnd_add P f .s2 (by decide) c
    unfold fin rs
    iintro ⟨#HE, Hf, HO, Hm⟩ Hk
    iapply (waits_runs P K f .s2 c l hl _ Q) $$ [Hf HO]
    · isplitr; · iexact HE
      isplitl [Hf]; · iexact Hf
      iexact HO
    iintro ⟨Hn, HO, Hs, Hl⟩
    icases Hm with ⟨H1, Ha⟩
    ihave Hl := (Entails.of_eq hl') $$ Hl
    iapply (add_runs P f .s2 (by decide) c _ (ps P f 1 c) (ps P f 2 c) rfl (fun _ _ => rfl) _ Q) $$ [Ha Hl]
    · isplitl [Ha]; · iexact Ha
      iexact Hl
    iintro ⟨Ha, Hr⟩
    ihave Hs := (Entails.of_eq (src2 P f c)) $$ Hs
    ihave Hs := (piece_any c .acc _ _ _ _ _) $$ Hs
    iapply Hk
    isplitl [Hn]; · iexact Hn
    isplitl [HO]; · iexact HO
    unfold nx bf mm
    isplitl [H1]; · iexact H1
    isplitl [Hs]; · iexact Hs
    isplitl [Ha]; · iexact Ha
    iexact Hr
  case s3 =>
    have hl' := lnd_add P f .s3 (by decide) c
    unfold fin rs
    iintro ⟨#HE, Hf, HO, Hm⟩ Hk
    iapply (waits_runs P K f .s3 c l hl _ Q) $$ [Hf HO]
    · isplitr; · iexact HE
      isplitl [Hf]; · iexact Hf
      iexact HO
    iintro ⟨Hn, HO, Hs, Hl⟩
    icases Hm with ⟨H1, H2, Ha, H3⟩
    ihave Hl := (Entails.of_eq hl') $$ Hl
    iapply (add_runs P f .s3 (by decide) c _ (ps P f 2 c) (ps P f 3 c) rfl (fun _ _ => rfl) _ Q) $$ [Ha Hl]
    · isplitl [Ha]; · iexact Ha
      iexact Hl
    iintro ⟨Ha, Hr⟩
    ihave Hs := (Entails.of_eq (src3 P f c)) $$ Hs
    ihave Hs := (piece_any c .acc _ _ _ _ _) $$ Hs
    iapply Hk
    isplitl [Hn]; · iexact Hn
    isplitl [HO]; · iexact HO
    unfold nx bf mm
    isplitl [H1]; · iexact H1
    isplitl [H2]; · iexact H2
    isplitl [Hs]; · iexact Hs
    isplitl [Ha]; · iexact Ha
    isplitl [Hr]; · iexact Hr
    iexact H3
  case s4 =>
    have hl' := lnd_add P f .s4 (by decide) c
    have ht : fp c .acc fullShare f (kr f c 4 - kr f c 1) 256 (sh (kr f c 1) (ps P f 4 c)) = fp c .acc fullShare f (kr f c 4 - kr f c 1) 256 (sh (kr f c 1) (tot P f)) :=
      piece_congr fun i j h1 h2 _ _ => by
        have := kr_four f c
        unfold sh; exact (tot_kr P f c _ _ (by omega) (by omega)).symm
    have h1 : (fa c .recv f 0 1024 : sProp 𝕄) = iprop(fa c .recv f 0 512 ∗ fa c .recv f 512 512) := pany_rows c .recv 0 512 512 _ _
    have h2 : (fa c .recv f 0 512 : sProp 𝕄) = iprop(fa c .recv f 0 256 ∗ fa c .recv f 256 256) := pany_rows c .recv 0 256 256 _ _
    unfold fin rs
    iintro ⟨#HE, Hf, HO, Hm⟩ Hk
    iapply (waits_runs P K f .s4 c l hl _ Q) $$ [Hf HO]
    · isplitr; · iexact HE
      isplitl [Hf]; · iexact Hf
      iexact HO
    iintro ⟨Hn, HO, Hs, Hl⟩
    icases Hm with ⟨H1, H2, H3, Ha, H4, H5⟩
    ihave Hl := (Entails.of_eq hl') $$ Hl
    iapply (add_runs P f .s4 (by decide) c _ (ps P f 3 c) (ps P f 4 c) rfl (fun _ _ => rfl) _ Q) $$ [Ha Hl]
    · isplitl [Ha]; · iexact Ha
      iexact Hl
    iintro ⟨Ha, Hr⟩
    ihave Hs := (Entails.of_eq (src4 P f c)) $$ Hs
    ihave Hs := (piece_any c .acc _ _ _ _ _) $$ Hs
    iapply Hk
    isplitl [Hn]; · iexact Hn
    isplitl [HO]; · iexact HO
    unfold nx bf
    isplitl [H1]; · iexact H1
    isplitl [H2]; · iexact H2
    isplitl [H3]; · iexact H3
    isplitl [Hs]; · iexact Hs
    isplitl [Ha]; · iapply (Entails.of_eq ht); iexact Ha
    iapply (Entails.of_eq h1.symm)
    isplitl [Hr H4]
    · iapply (Entails.of_eq h2.symm)
      isplitl [Hr]; · iexact Hr
      iexact H4
    iexact H5
  case s5 =>
    have h1 := piece_share c .acc (kr f c 4 - kr f c 1) 256 (c0 f) (cw f) (sh (kr f c 1) (tot P f))
    have h2 : (fp c .o fullShare f (kr f c 3) 512 (tot P f) : sProp 𝕄) = iprop(fp c .o fullShare f (kr f c 4) 256 (tot P f) ∗ fp c .o fullShare f (gr f c 3) 256 (tot P f)) :=
      fp_halve c .o fullShare f 3 0 256 512 (Nat.zero_le _) rfl rfl _
    have j3 := junk_halve (F := F) f c 3 3 4 256 512 (by decide) rfl rfl rfl rfl
    have j2 := junk_halve (F := F) f c 2 2 3 512 1024 (by decide) rfl rfl rfl rfl
    have j1 := (acc_whole f c).symm.trans (junk_halve (F := F) f c 1 1 2 1024 2048 (by decide) rfl rfl rfl rfl)
    unfold fin rs
    iintro ⟨#HE, Hf, HO, Hm⟩ Hk
    iapply (waits_runs P K f .s5 c l hl _ Q) $$ [Hf HO]
    · isplitr; · iexact HE
      isplitl [Hf]; · iexact Hf
      iexact HO
    iintro ⟨Hn, HO, Hs, Hl⟩
    icases Hm with ⟨H1, H2, Ha1, Ha2, Ha3, Hr, Ho2, Ho1, Ho0⟩
    iapply (locWait_runs P K f 2 c l .acc .o _ _ _ _ _ rfl _ Q) $$ [H2 HO]
    · isplitr; · iexact HE
      isplitl [H2]; · iexact H2
      iexact HO
    unfold lcP
    iintro ⟨H2, HO, Ho, Ha⟩
    ihave Hl := (Entails.of_eq (lnd5 P f c)) $$ Hl
    ihave Hs := (Entails.of_eq (src5 P f c)) $$ Hs
    ihave Ha := (Entails.of_eq h1.symm) $$ [Ha Hs]
    · isplitl [Ha]; · iexact Ha
      iexact Hs
    ihave Ha := (piece_any c .acc _ _ _ _ _) $$ Ha
    ihave Ha := (Entails.of_eq j3.symm) $$ [Ha Ha3]
    · isplitl [Ha]; · iexact Ha
      iexact Ha3
    ihave Ha := (Entails.of_eq j2.symm) $$ [Ha Ha2]
    · isplitl [Ha]; · iexact Ha
      iexact Ha2
    ihave Ha := (Entails.of_eq j1.symm) $$ [Ha Ha1]
    · isplitl [Ha]; · iexact Ha
      iexact Ha1
    iapply Hk
    isplitl [Hn]; · iexact Hn
    isplitl [HO]; · iexact HO
    unfold nx bf mm stD
    isplitl [H1 H2 Ha Hr]
    · isplitl [H1]; · iexact H1
      isplitl [H2]; · iexact H2
      isplitl [Ha]; · iexact Ha
      iexact Hr
    isplitl [Ho Hl]
    · iapply (Entails.of_eq h2.symm)
      isplitl [Ho]; · iexact Ho
      iexact Hl
    isplitl [Ho2]; · iexact Ho2
    isplitl [Ho1]; · iexact Ho1
    iexact Ho0
  case s6 =>
    have h2 : (fp c .o fullShare f (kr f c 2) 1024 (tot P f) : sProp 𝕄) = iprop(fp c .o fullShare f (kr f c 3) 512 (tot P f) ∗ fp c .o fullShare f (gr f c 2) 512 (tot P f)) :=
      fp_halve c .o fullShare f 2 0 512 1024 (Nat.zero_le _) rfl rfl _
    unfold fin rs
    iintro ⟨#HE, Hf, HO, Hm⟩ Hk
    iapply (waits_runs P K f .s6 c l hl _ Q) $$ [Hf HO]
    · isplitr; · iexact HE
      isplitl [Hf]; · iexact Hf
      iexact HO
    iintro ⟨Hn, HO, Hs, Hl⟩
    icases Hm with ⟨H1, Ho1, Ho0⟩
    ihave Hl := (Entails.of_eq (lnd6 P f c)) $$ Hl
    ihave Hs := (Entails.of_eq (src6 P f c)) $$ Hs
    iapply Hk
    isplitl [Hn]; · iexact Hn
    isplitl [HO]; · iexact HO
    unfold nx bf mm
    isplitl [H1]; · iexact H1
    isplitl [Hs Hl]
    · iapply (Entails.of_eq h2.symm)
      isplitl [Hs]; · iexact Hs
      iexact Hl
    isplitl [Ho1]; · iexact Ho1
    iexact Ho0
  case s7 =>
    have h2 : (fp c .o fullShare f (kr f c 1) 2048 (tot P f) : sProp 𝕄) = iprop(fp c .o fullShare f (kr f c 2) 1024 (tot P f) ∗ fp c .o fullShare f (gr f c 1) 1024 (tot P f)) :=
      fp_halve c .o fullShare f 1 0 1024 2048 (Nat.zero_le _) rfl rfl _
    unfold fin rs
    iintro ⟨#HE, Hf, HO, Hm⟩ Hk
    iapply (waits_runs P K f .s7 c l hl _ Q) $$ [Hf HO]
    · isplitr; · iexact HE
      isplitl [Hf]; · iexact Hf
      iexact HO
    iintro ⟨Hn, HO, Hs, Hl⟩
    icases Hm with ⟨H1, Ho0⟩
    ihave Hl := (Entails.of_eq (lnd7 P f c)) $$ Hl
    ihave Hs := (Entails.of_eq (src7 P f c)) $$ Hs
    iapply Hk
    isplitl [Hn]; · iexact Hn
    isplitl [HO]; · iexact HO
    unfold nx bf mm
    isplitl [H1]; · iexact H1
    isplitl [Hs Hl]
    · iapply (Entails.of_eq h2.symm)
      isplitl [Hs]; · iexact Hs
      iexact Hl
    iexact Ho0
  case s8 =>
    have h2 : (fp c .o fullShare f 0 4096 (tot P f) : sProp 𝕄) = iprop(fp c .o fullShare f (kr f c 1) 2048 (tot P f) ∗ fp c .o fullShare f (gr f c 0) 2048 (tot P f)) :=
      fp_halve c .o fullShare f 0 0 2048 4096 (Nat.zero_le _) rfl rfl _
    unfold fin rs
    iintro ⟨#HE, Hf, HO, Hm⟩ Hk
    iapply (waits_runs P K f .s8 c l hl _ Q) $$ [Hf HO]
    · isplitr; · iexact HE
      isplitl [Hf]; · iexact Hf
      iexact HO
    iintro ⟨Hn, HO, Hs, Hl⟩
    ihave Hl := (Entails.of_eq (lnd8 P f c)) $$ Hl
    ihave Hs := (Entails.of_eq (src8 P f c)) $$ Hs
    iapply Hk
    isplitl [Hn]; · iexact Hn
    isplitl [HO]; · iexact HO
    unfold nx en
    isplitl [Hm]; · iexact Hm
    iapply (Entails.of_eq h2.symm)
    isplitl [Hs]; · iexact Hs
    iexact Hl

end Cert.KernelIdeal.Own
-- ==== Proof.BodyEq.lean ====
module

public import proofs.«01_k».proof.Proof.Prog
public import proofs.«01_k».proof.Proof.Gen.KernelIdeal.Points

@[expose] public section

noncomputable section

namespace Cert.KernelIdeal.Own

open Idealize.ShloMosaic Idealize.ShloMosaic.TcCoe
open Idealize.SL.Sem
open Cert.KernelIdeal Cert.KernelIdeal.Gen

variable {F : FTy → Type} [FloatOps F]

set_option maxRecDepth 100000
set_option maxHeartbeats 0

/-- The kernel's body is those blocks. -/
theorem body_eq :
    cc0_body (F := F) (Memref.whole main_v21) (Memref.isWhole_whole _) (Memref.whole main_v22) (Memref.isWhole_whole _)
      (Memref.whole cc0_scratch0) (Memref.isWhole_whole _) (Memref.whole cc0_scratch1) (Memref.isWhole_whole _)
      cc0_scratch2 cc0_scratch3 cc0_scratch4 cc0_scratch5 = body := rfl

end Cert.KernelIdeal.Own
-- ==== Proof.Walk.lean ====
module

public import proofs.«01_k».proof.Proof.Blocks
public import proofs.«01_k».proof.Proof.BodyEq

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! The whole body: the meeting, the blocks in their order, and the four last transfers. -/

variable (P : Dev nD → ℕ → ℕ → Elt F .f32) (K : GSem nD τ sig → ℕ)

/-! ## One flow's state between blocks -/

/-- A list of transfers' resources. -/
def lst (Φ : St → sProp 𝕄) : List St → sProp 𝕄
  | [] => iprop(emp)
  | w :: l => iprop(Φ w ∗ lst Φ l)

theorem lst_eq (Φ : St → sProp 𝕄) (l : List St) : lst Φ l = bigSepL l Φ := by
  induction l with
  | nil => rfl
  | cons a l ih =>
    cases l with
    | nil => exact BI.equiv_iff.mp sep_emp
    | cons b l => show iprop(Φ a ∗ lst Φ (b :: l)) = _; rw [ih]; rfl

theorem lst_all (Φ : St → sProp 𝕄) (l : List St) (h : Finset.univ = l.toFinset) (hl : l.Nodup) : bigSep Finset.univ Φ = lst Φ l :=
  (bigSep_univ_eq_bigSepL l h hl Φ).trans (lst_eq Φ l).symm

/-- The transfers after a given one, -/
def aft : St → List St
  | .s8 => [] | .s7 => [.s8] | .s6 => [.s7, .s8] | .s5 => [.s6, .s7, .s8] | .s4 => [.s5, .s6, .s7, .s8]
  | .s3 => [.s4, .s5, .s6, .s7, .s8] | .s2 => [.s3, .s4, .s5, .s6, .s7, .s8]
  | .s1 => [.s2, .s3, .s4, .s5, .s6, .s7, .s8] | .s0 => [.s1, .s2, .s3, .s4, .s5, .s6, .s7, .s8]
/-- and those before it, the latest first. -/
def bef : St → List St
  | .s0 => [] | .s1 => [.s0] | .s2 => [.s1, .s0] | .s3 => [.s2, .s1, .s0] | .s4 => [.s3, .s2, .s1, .s0]
  | .s5 => [.s4, .s3, .s2, .s1, .s0] | .s6 => [.s5, .s4, .s3, .s2, .s1, .s0]
  | .s7 => [.s6, .s5, .s4, .s3, .s2, .s1, .s0] | .s8 => [.s7, .s6, .s5, .s4, .s3, .s2, .s1, .s0]

/-- A flow whose last issued transfer is given. -/
def FS (f : Fl) (c : Dev nD) : Option St → sProp 𝕄
  | none => iprop(bf P f c .s0 ∗ lst (gh c f) (.s0 :: aft .s0))
  | some w => iprop(rs P f c w ∗ fl c f w ∗ lst (gh c f) (aft w) ∗ lst (dn c f) (bef w))

/-- A flow that is over. -/
def FE (f : Fl) (c : Dev nD) : sProp 𝕄 := iprop(en P f c ∗ lst (dn c f) (.s8 :: bef .s8))

/-- The transfer issued before. -/
def prvO : St → Option St
  | .s0 => none
  | w => some (prv w)

theorem pos_prv (f : Fl) (w : St) (h : w ≠ .s0) : pos (f, prv w) < pos (f, w) := by
  revert h; revert w; revert f; decide +kernel

/-- One block. -/
theorem block_runs (f : Fl) (w : St) (c : Dev nD) (l : List (Fl × St)) (hl : ∀ x ∈ l, pos (f, w) < pos x)
    (k : PG F) (Q : PUnit → sProp 𝕄) :
    iprop(Env P K c ∗ FS P f c (prvO w) ∗ ow c (dues c ((f, w) :: l)))
      ⊢ iprop((iprop(FS P f c (some w) ∗ ow c (dues c l)) -∗ Runs c k Q) -∗ Runs c (block f c w k) Q) := by
  by_cases hw : w = .s0
  · subst hw
    have e : (iprop(emp) : sProp 𝕄) ⊢ lst (dn c f) (bef .s0) := .rfl
    show iprop(Env P K c ∗ iprop(bf P f c .s0 ∗ iprop(gh c f .s0 ∗ lst (gh c f) (aft .s0))) ∗ ow c (dues c ((f, .s0) :: l))) ⊢ _
    unfold block
    iintro ⟨#HE, ⟨Hb, Hg, Ht⟩, HO⟩ Hk
    iapply (issue_runs P K f .s0 c l hl k Q) $$ [Hb Hg HO]
    · isplitr; · iexact HE
      isplitl [Hg]; · iexact Hg
      isplitl [HO]; · iexact HO
      iexact Hb
    iintro ⟨Hf, HO, Hr⟩
    iapply Hk
    unfold FS
    isplitr [HO]
    · isplitl [Hr]; · iexact Hr
      isplitl [Hf]; · iexact Hf
      isplitl [Ht]; · iexact Ht
      iapply e
      iempintro
    iexact HO
  · have e1 : FS P f c (prvO w) = iprop(rs P f c (prv w) ∗ fl c f (prv w) ∗ (gh c f w ∗ lst (gh c f) (aft w)) ∗ lst (dn c f) (bef (prv w))) := by
      cases w <;> first | exact absurd rfl hw | rfl
    have e2 : iprop(dn c f (prv w) ∗ lst (dn c f) (bef (prv w))) = (lst (dn c f) (bef w) : sProp 𝕄) := by
      cases w <;> first | exact absurd rfl hw | rfl
    have e3 : nx P f c (prv w) = bf P f c w := by
      cases w <;> first | exact absurd rfl hw | rfl
    have e4 : block f c w k = fin f c (prv w) (issue f c w k) := by
      cases w <;> first | exact absurd rfl hw | rfl
    have hp := pos_prv f w hw
    rw [e1, e4]
    iintro ⟨#HE, ⟨Hr, Hf, ⟨Hg, Ht⟩, Hn⟩, HO⟩ Hk
    iapply (fin_runs P K f (prv w) c ((f, w) :: l) (fun x hx => by
      rcases List.mem_cons.mp hx with rfl | hx
      · exact hp
      · exact hp.trans (hl x hx)) _ Q) $$ [Hr Hf HO]
    · isplitr; · iexact HE
      isplitl [Hf]; · iexact Hf
      isplitl [HO]; · iexact HO
      iexact Hr
    iintro ⟨Hd, HO, Hb⟩
    ihave Hb := (Entails.of_eq e3) $$ Hb
    ihave Hn := (Entails.of_eq e2) $$ [Hd Hn]
    · isplitl [Hd]; · iexact Hd
      iexact Hn
    iapply (issue_runs P K f w c l hl k Q) $$ [Hb Hg HO]
    · isplitr; · iexact HE
      isplitl [Hg]; · iexact Hg
      isplitl [HO]; · iexact HO
      iexact Hb
    iintro ⟨Hf, HO, Hr⟩
    iapply Hk
    unfold FS
    isplitr [HO]
    · isplitl [Hr]; · iexact Hr
      isplitl [Hf]; · iexact Hf
      isplitl [Ht]; · iexact Ht
      iexact Hn
    iexact HO

/-- A list of blocks that goes on from where the flows are, in the order of issue. -/
def okB : (Fl → Option St) → List (Fl × St) → Bool
  | _, [] => true
  | n, (f, w) :: l => decide (n f = prvO w) && l.all (fun x => decide (pos (f, w) < pos x)) && okB (Function.update n f (some w)) l
/-- Where the flows are after a list of blocks. -/
def after : (Fl → Option St) → List (Fl × St) → Fl → Option St
  | n, [] => n
  | n, (f, w) :: l => after (Function.update n f (some w)) l

theorem okB_order : okB (fun _ => none) order = true := by decide +kernel
theorem after_order (f : Fl) : after (fun _ => none) order f = some .s8 := by revert f; decide +kernel

/-- The blocks, one after another. -/
theorem blocks_runs (c : Dev nD) (k : PG F) (Q : PUnit → sProp 𝕄) (l : List (Fl × St)) (n : Fl → Option St) (hn : okB n l = true) :
    iprop(Env P K c ∗ (bigSep Finset.univ fun f => FS P f c (n f)) ∗ ow c (dues c l))
      ⊢ iprop((iprop((bigSep Finset.univ fun f => FS P f c (after n l f)) ∗ ow c (dues c [])) -∗ Runs c k Q) -∗ Runs c (blocks c k l) Q) := by
  induction l generalizing n with
  | nil =>
    unfold blocks after
    iintro ⟨-, HF, HO⟩ Hk
    iapply Hk
    isplitl [HF]; · iexact HF
    iexact HO
  | cons x l ih =>
    obtain ⟨f, w⟩ := x
    unfold okB at hn
    rw [Bool.and_eq_true, Bool.and_eq_true, decide_eq_true_eq, List.all_eq_true] at hn
    obtain ⟨⟨h1, h2⟩, h3⟩ := hn
    have hu : (bigSep Finset.univ fun g => FS P g c (n g))
        ⊢ iprop(FS P f c (n f) ∗ (FS P f c (Function.update n f (some w) f) -∗ bigSep Finset.univ fun g => FS P g c (Function.update n f (some w) g))) :=
      bigSep_univ_update (Φ := fun g => FS P g c (n g)) (Ψ := fun g => FS P g c (Function.update n f (some w) g)) f fun j hj => by
        show FS P j c _ = FS P j c _
        rw [Function.update_of_ne hj]
    rw [h1, Function.update_self] at hu
    unfold blocks after
    iintro ⟨#HE, HF, HO⟩ Hk
    ihave HF := hu $$ HF
    icases HF with ⟨Hf, Hb⟩
    iapply (block_runs P K f w c l (fun x hx => of_decide_eq_true (h2 x hx)) _ Q) $$ [Hf HO]
    · isplitr; · iexact HE
      isplitl [Hf]; · iexact Hf
      iexact HO
    iintro ⟨Hf, HO⟩
    ihave HF := Hb $$ Hf
    iapply (ih _ h3) $$ [HF HO]
    · isplitr; · iexact HE
      isplitl [HF]; · iexact HF
      iexact HO
    iexact Hk

/-- The last transfer of a flow. -/
theorem last_runs (f : Fl) (c : Dev nD) (k : PG F) (Q : PUnit → sProp 𝕄) :
    iprop(Env P K c ∗ FS P f c (some .s8) ∗ ow c (dues c []))
      ⊢ iprop((iprop(FE P f c ∗ ow c (dues c [])) -∗ Runs c k Q) -∗ Runs c (fin f c .s8 k) Q) := by
  have e : iprop(nx P f c .s8 ∗ dn c f .s8 ∗ lst (dn c f) (bef .s8)) ⊢ FE P f c := .rfl
  unfold FS
  iintro ⟨#HE, ⟨Hr, Hf, -, Hn⟩, HO⟩ Hk
  iapply (fin_runs P K f .s8 c [] (fun x hx => absurd hx List.not_mem_nil) _ Q) $$ [Hr Hf HO]
  · isplitr; · iexact HE
    isplitl [Hf]; · iexact Hf
    isplitl [HO]; · iexact HO
    iexact Hr
  iintro ⟨Hd, HO, Hb⟩
  iapply Hk
  isplitr [HO]
  · iapply e
    isplitl [Hb]; · iexact Hb
    isplitl [Hd]; · iexact Hd
    iexact Hn
  iexact HO

theorem four (Φ : Fl → sProp 𝕄) : bigSep Finset.univ Φ = iprop(Φ .f0 ∗ Φ .f1 ∗ Φ .f2 ∗ Φ .f3) :=
  by rw [bigSep_univ_eq_bigSepL [Fl.f0, Fl.f1, Fl.f2, Fl.f3] (by decide) (by decide)]; rfl

/-- All blocks and the four last transfers. -/
theorem flows_runs (c : Dev nD) (Q : PUnit → sProp 𝕄) :
    iprop(Env P K c ∗ (bigSep Finset.univ fun f => FS P f c none) ∗ ow c (dues c order))
      ⊢ iprop((iprop((bigSep Finset.univ fun f => FE P f c) ∗ ow c 0) -∗ Q ⟨⟩) -∗ Runs c (blocks c
        (fin .f0 c .s8 (fin .f1 c .s8 (fin .f2 c .s8 (fin .f3 c .s8 (.ret PUnit.unit))))) order) Q) := by
  have h8 : (bigSep Finset.univ fun f => FS P f c (after (fun _ => none) order f)) = bigSep Finset.univ fun f => FS P f c (some .s8) :=
    bigSep_congr fun f _ => by rw [after_order f]
  iintro ⟨#HE, HF, HO⟩ Hk
  iapply (blocks_runs P K c _ Q order (fun _ => none) okB_order) $$ [HF HO]
  · isplitr; · iexact HE
    isplitl [HF]; · iexact HF
    iexact HO
  rw [h8, four, four]
  iintro ⟨⟨H0, H1, H2, H3⟩, HO⟩
  iapply (last_runs P K .f0 c _ Q) $$ [H0 HO]
  · isplitr; · iexact HE
    isplitl [H0]; · iexact H0
    iexact HO
  iintro ⟨H0, HO⟩
  iapply (last_runs P K .f1 c _ Q) $$ [H1 HO]
  · isplitr; · iexact HE
    isplitl [H1]; · iexact H1
    iexact HO
  iintro ⟨H1, HO⟩
  iapply (last_runs P K .f2 c _ Q) $$ [H2 HO]
  · isplitr; · iexact HE
    isplitl [H2]; · iexact H2
    iexact HO
  iintro ⟨H2, HO⟩
  iapply (last_runs P K .f3 c _ Q) $$ [H3 HO]
  · isplitr; · iexact HE
    isplitl [H3]; · iexact H3
    iexact HO
  iintro ⟨H3, HO⟩
  rw [Runs, wp_ret]
  imodintro
  iapply Hk
  isplitr [HO]
  · isplitl [H0]; · iexact H0
    isplitl [H1]; · iexact H1
    isplitl [H2]; · iexact H2
    iexact H3
  iexact HO

/-! ## The meeting -/

/-- What may be consulted before the meeting. -/
def Env0 (c : Dev nD) : sProp 𝕄 :=
  iprop(invs P K ∗ opn c ∗ (bigSep Finset.univ fun d : Dr => reached ER (cell (par d c) none) 0) ∗ levAts L lv)

instance Env0_persistent (c : Dev nD) : BI.Persistent (Env0 P K c) := by unfold Env0; infer_instance

/-- A signal of the meeting. -/
theorem signal_runs (d : Dr) (c : Dev nD) (l : List Dr) (k : PG F) (Q : PUnit → sProp 𝕄) :
    iprop(Env0 P K c ∗ dutyTok ER (cell (par d c) none) 0 d ∗ ow c (dueM c (d :: l)))
      ⊢ iprop((ow c (dueM c l) -∗ Runs c k Q)
        -∗ Runs c (.op (.semSignal ((par d c : Thread nD τ)) brS ((1 : ℕ) : ℤ)) fun _ => k) Q) := by
  have hp : (opn c : sProp 𝕄) ⊢ (rd P).payload ((par d c : Thread nD τ), SemLoc.reg brS) 0 d :=
    Entails.of_eq ((payload_cell P (par d c) none 0 d).trans (by show opn (par d (par d c)) = _; rw [par_par])).symm
  have hr : (bigSep Finset.univ fun d : Dr => reached ER (cell (par d c) none) 0) ⊢ (reached ER (cell (par d c) none) 0 : sProp 𝕄) :=
    bigSep_elim (i := d) (Finset.mem_univ _)
  unfold Env0 ow
  iintro ⟨⟨#HI, #Ho, #Hr, -⟩, Ht, ⟨%W, HO⟩⟩ Hk
  iapply (Rounds.wp_signal 𝒱₀ ER (rd P) (c : Thread nD τ) none (dst := (par d c : Thread nD τ)) (sem := brS) (r := 0) (d := d)
      (κ := K (cell (par d c) none)) (mem_duties_br P (par d c) d) (amount_cell P (par d c) none 0 d) ()
      (dueM c l) (add_comm _ _)) $$ [HO Ht]
  · isplitr; · iapply (invs_at P K (par d c) none); iexact HI
    isplitl [HO]; · iexact HO
    isplitl [Ht]; · iexact Ht
    isplitr; · iapply hp; iexact Ho
    iapply hr; iexact Hr
  iintro HO
  iapply Hk
  iexists W; iexact HO

theorem four' (Φ : Dr → sProp 𝕄) : bigSep Finset.univ Φ = iprop(Φ .x ∗ Φ .y ∗ Φ .z1 ∗ Φ .z2) :=
  by rw [bigSep_univ_eq_bigSepL [Dr.x, Dr.y, Dr.z1, Dr.z2] (by decide) (by decide)]; rfl

theorem mayWait_meet (c : Dev nD) : (levAts L lv : sProp 𝕄) ⊢ MayWait (c : Thread nD τ) (.reg brS) () (dues c order) :=
  mayWait_dues c none order fun x _ => by show 1 < 2 * pos x + 2; omega

/-- The meeting, with the partners variables. -/
def meetAt (p1 p2 p3 p4 : Dev nD) (k : PG F) : PG F :=
  .op (.semSignal ((p1 : Thread nD τ)) brS ((1 : ℕ) : ℤ)) fun _ =>
  .op (.semSignal ((p2 : Thread nD τ)) brS ((1 : ℕ) : ℤ)) fun _ =>
  .op (.semSignal ((p3 : Thread nD τ)) brS ((1 : ℕ) : ℤ)) fun _ =>
  .op (.semSignal ((p4 : Thread nD τ)) brS ((1 : ℕ) : ℤ)) fun _ =>
  .op (.semWait brS ((4 : ℕ) : ℤ)) fun _ => k

theorem meet_eq (c : Dev nD) (k : PG F) : meet c k = meetAt (par .x c) (par .y c) (par .z1 c) (par .z2 c) k := by
  rw [← dev1_eq, ← dev2_eq, ← dev3_eq, ← dev4_eq]; rfl

set_option maxHeartbeats 800000 in
/-- The meeting: afterwards the partners' semaphores may be paid. -/
theorem meet_runs (c : Dev nD) (k : PG F) (Q : PUnit → sProp 𝕄) :
    iprop(Env0 P K c ∗ (bigSep Finset.univ fun d : Dr => dutyTok ER (cell (par d c) none) 0 d) ∗ atPos ER (cell c none) 0 ∅ 0
        ∗ cred (tallyAt (cell c none) () 4) ∗ ow c (dueM c [.x, .y, .z1, .z2]))
      ⊢ iprop((iprop(Env P K c ∗ semVal (cell c none) 0 ∗ ow c (dues c order)) -∗ Runs c k Q) -∗ Runs c (meet c k) Q) := by
  have hp : (bigSep ((rd P).duties ((c : Thread nD τ), SemLoc.reg brS) 0 \ ∅)
        fun d => (rd P).payload ((c : Thread nD τ), SemLoc.reg brS) 0 d) ⊢ (bigSep Finset.univ fun d : Dr => opn (par d c) : sProp 𝕄) :=
    Entails.of_eq (rest_br P c)
  have hmw := mayWait_meet (F := F) c
  rw [meet_eq, four']
  unfold meetAt
  iintro ⟨#HE, ⟨T1, T2, T3, T4⟩, Ha, Hc, HO⟩ Hk
  iapply (signal_runs P K .x c [.y, .z1, .z2] _ Q) $$ [T1 HO]
  · isplitr; · iexact HE
    isplitl [T1]; · iexact T1
    iexact HO
  iintro HO
  iapply (signal_runs P K .y c [.z1, .z2] _ Q) $$ [T2 HO]
  · isplitr; · iexact HE
    isplitl [T2]; · iexact T2
    iexact HO
  iintro HO
  iapply (signal_runs P K .z1 c [.z2] _ Q) $$ [T3 HO]
  · isplitr; · iexact HE
    isplitl [T3]; · iexact T3
    iexact HO
  iintro HO
  iapply (signal_runs P K .z2 c [] _ Q) $$ [T4 HO]
  · isplitr; · iexact HE
    isplitl [T4]; · iexact T4
    iexact HO
  unfold ow dueM Env0
  iintro ⟨%W, HO⟩
  icases HE with ⟨HI, Hop, -, HL⟩
  iapply (Rounds.wp_wait_rest_token 𝒱₀ ER (rd P) (c : Thread nD τ) none (κ := K (cell c none))
      (wpE_semWait_eq 𝒱₀ (c : Thread nD τ) none Set.univ) (Set.mem_univ _) ()
      (O := dues c order) (W := W) (R := 0) (m := 0) (T := ∅)
      ((Nat.zero_add 4).trans (expect_br P c).symm)) $$ [Hc HO Ha]
  · isplitr; · iapply (invs_at P K c none); iexact HI
    isplitl [Hc]; · iexact Hc
    isplitl [HO]; · iexact HO
    isplitr; · iapply hmw; iexact HL
    iexact Ha
  iintro ⟨HO, Ha, -, Hpay⟩
  ihave #Hpar := hp $$ Hpay
  imod (Rounds.cell_close ER (rd P) (κ := K (cell c none)) (Set.mem_univ _) id (fun r h => duties_later P (cell c none) r h)) $$ [Ha] with H0
  · isplitr; · iapply (invs_at P K c none); iexact HI
    iexact Ha
  iapply Hk
  isplitr [H0 HO]
  · unfold Env
    isplitr; · iexact HI
    isplitr; · iexact Hop
    isplitr; · iexact Hpar
    iexact HL
  isplitl [H0]; · iexact H0
  iexists _; iexact HO

/-! ## The body -/

/-- The body, from what the meeting takes and the flows at their beginnings. -/
theorem body_runs (c : Dev nD) (Q : PUnit → sProp 𝕄) :
    iprop(Env0 P K c ∗ (bigSep Finset.univ fun d : Dr => dutyTok ER (cell (par d c) none) 0 d) ∗ atPos ER (cell c none) 0 ∅ 0
        ∗ cred (tallyAt (cell c none) () 4) ∗ ow c (dueM c [.x, .y, .z1, .z2]) ∗ bigSep Finset.univ fun f => FS P f c none)
      ⊢ iprop((iprop(semVal (cell c none) 0 ∗ (bigSep Finset.univ fun f => FE P f c) ∗ ow c 0) -∗ Q ⟨⟩) -∗ Runs c body Q) := by
  have hd : Runs c body Q = Runs c (meet c (blocks c
        (fin .f0 c .s8 (fin .f1 c .s8 (fin .f2 c .s8 (fin .f3 c .s8 (.ret PUnit.unit))))) order)) Q := by
    simp only [Runs, body, wp_deviceId]
  rw [hd]
  iintro ⟨#HE, Ht, Ha, Hc, HO, HF⟩ Hk
  iapply (meet_runs P K c _ Q) $$ [Ht Ha Hc HO]
  · isplitr; · iexact HE
    isplitl [Ht]; · iexact Ht
    isplitl [Ha]; · iexact Ha
    isplitl [Hc]; · iexact Hc
    iexact HO
  iintro ⟨#HE, H0, HO⟩
  iapply (flows_runs P K c Q) $$ [HF HO]
  · isplitr; · iexact HE
    isplitl [HF]; · iexact HF
    iexact HO
  iintro ⟨HF, HO⟩
  iapply Hk
  isplitl [H0]; · iexact H0
  isplitl [HF]; · iexact HF
  iexact HO

end Cert.KernelIdeal.Own
-- ==== Proof.Gather.lean ====
module

public import proofs.«01_k».proof.Proof.Walk

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! What a device holds, by semaphore and by buffer, is what its four flows hold. -/

/-! ## Semaphores -/

/-- A family over the kernel's own semaphores, by kind. -/
theorem byKind (Φ : SK → sProp 𝕄) : bigSep Finset.univ Φ
    = iprop(((bigSep Finset.univ fun f => bigSep Finset.univ fun w => Φ (kRd f w)) ∗ (bigSep Finset.univ fun f => bigSep Finset.univ fun w => Φ (kSd f w)))
      ∗ ((bigSep Finset.univ fun f => bigSep Finset.univ fun w => Φ (kRv f w)) ∗ (bigSep Finset.univ fun f => bigSep Finset.univ fun s => Φ (kLc f s)))) := by
  rw [bigSep_univ_sum, bigSep_univ_sum, bigSep_univ_sum, bigSep_univ_prod, bigSep_univ_prod, bigSep_univ_prod, bigSep_univ_prod]
  rfl

/-- The device whose semaphore device `c` pays. -/
def tgt (c : Dev nD) : SK → Dev nD
  | kRd f w => pt f w c
  | kRv f w => pt f w c
  | _ => c

theorem tgt_tgt (k : SK) (c : Dev nD) : tgt (tgt c k) k = c := by
  match k with
  | kRd f w => exact par_par _ c
  | kSd _ _ => rfl
  | kRv f w => exact par_par _ c
  | kLc _ _ => rfl

/-- What the partner's payments are worth to a device from the start. -/
def crd : SK → ℕ
  | kRd _ _ => 1
  | kRv f w => ncr f w
  | _ => 0

theorem three (Φ : Fin 3 → sProp 𝕄) : bigSep Finset.univ Φ = iprop(Φ 0 ∗ Φ 1 ∗ Φ 2) := by
  rw [bigSep_univ_eq_bigSepL [(0 : Fin 3), 1, 2] (by decide) (by decide)]; rfl

/-- The tokens, positions and credits of a device are those of its flows' transfers and local copies. -/
theorem flows_in (c : Dev nD) :
    iprop((bigSep Finset.univ fun k : SK => dutyTok ER (cell (tgt c k) (some k)) 0 Dr.x) ∗ (bigSep Finset.univ fun k : SK => atPos ER (cell c (some k)) 0 ∅ 0)
        ∗ bigSep Finset.univ fun k : SK => cred (tallyAt (cell c (some k)) () (crd k)))
      ⊢ (bigSep Finset.univ fun f : Fl => iprop(lst (gh c f) (.s0 :: aft .s0) ∗ ghL c f 0 ∗ ghL c f 1 ∗ ghL c f 2) : sProp 𝕄) := by
  have e : (bigSep Finset.univ fun f : Fl => iprop(lst (gh c f) (.s0 :: aft .s0) ∗ ghL c f 0 ∗ ghL c f 1 ∗ ghL c f 2) : sProp 𝕄)
      = bigSep Finset.univ fun f : Fl => iprop((bigSep Finset.univ fun w => gh c f w) ∗ bigSep Finset.univ fun s => ghL c f s) :=
    bigSep_congr fun f _ => by rw [three, lst_all (gh c f) (.s0 :: aft .s0) (by decide) (by decide)]
  rw [e, byKind, byKind, byKind]
  simp only [gh, ghL, bigSep_sep']
  iintro ⟨⟨⟨T1, T2⟩, T3, T4⟩, ⟨⟨A1, A2⟩, A3, A4⟩, ⟨⟨C1, -⟩, C3, -⟩⟩
  isplitr [T4 A4]
  · isplitl [T1]; · iexact T1
    isplitl [T3]; · iexact T3
    isplitl [T2]; · iexact T2
    isplitl [A1]; · iexact A1
    isplitl [A2]; · iexact A2
    isplitl [A3]; · iexact A3
    isplitl [C1]; · iexact C1
    iexact C3
  · isplitl [T4]; · iexact T4
    iexact A4

/-- The flows' semaphores at the end are all the kernel's own. -/
theorem flows_out (c : Dev nD) :
    (bigSep Finset.univ fun f : Fl => iprop(lst (dn c f) (.s8 :: bef .s8) ∗ lc0 c f 0 ∗ lc0 c f 1 ∗ lc0 c f 2) : sProp 𝕄)
      ⊢ bigSep Finset.univ fun k : SK => semVal (cell c (some k)) 0 := by
  have e : (bigSep Finset.univ fun f : Fl => iprop(lst (dn c f) (.s8 :: bef .s8) ∗ lc0 c f 0 ∗ lc0 c f 1 ∗ lc0 c f 2) : sProp 𝕄)
      = bigSep Finset.univ fun f : Fl => iprop((bigSep Finset.univ fun w => dn c f w) ∗ bigSep Finset.univ fun s => lc0 c f s) :=
    bigSep_congr fun f _ => by rw [three, lst_all (dn c f) (.s8 :: bef .s8) (by decide) (by decide)]
  rw [e, byKind]
  simp only [dn, lc0, bigSep_sep']
  iintro ⟨⟨H1, H2, H3⟩, H4⟩
  isplitl [H1 H2]
  · isplitl [H1]; · iexact H1
    iexact H2
  · isplitl [H3]; · iexact H3
    iexact H4

/-! ## Buffers -/

/-- Rows of a buffer are the four flows' columns of them. -/
theorem piece_flows (c : Dev nD) (b : Bf) (q : PosShare TreeShare) (r n : ℕ) (g : ℕ → ℕ → Elt F .f32) :
    (piece c b q r n 0 4096 g : sProp 𝕄) = bigSep Finset.univ fun f => fp c b q f r n g := by
  rw [four]
  show piece c b q r n 0 (1280 + (1280 + (768 + 768))) g = _
  rw [piece_cols, piece_cols, piece_cols]
  rfl

theorem pany_flows (c : Dev nD) (b : Bf) (r n : ℕ) :
    (pany c b r n 0 4096 : sProp 𝕄) = bigSep Finset.univ fun f => fa (F := F) c b f r n := by
  rw [four]
  show pany c b r n 0 (1280 + (1280 + (768 + 768))) = _
  rw [pany_cols, pany_cols, pany_cols]
  rfl

/-- The flow of a column. -/
def flc (k : ℕ) : Fl := if k < 1280 then .f0 else if k < 2560 then .f1 else if k < 3328 then .f2 else .f3

theorem flc_eq (f : Fl) (k : ℕ) (h : c0 f ≤ k) (h' : k < c0 f + cw f) : flc k = f := by
  unfold flc
  cases f <;> simp only [c0, cw] at h h' <;> split_ifs <;> first | rfl | omega

/-- The result, by row and column. -/
def res (P : Dev nD → ℕ → ℕ → Elt F .f32) (r k : ℕ) : Elt F .f32 := tot P (flc k) r k

/-- A whole buffer, by row and column. -/
theorem whole_at (c : Dev nD) (b : Bf) (f : (mem b).view.ty.Contents (Elt F)) :
    ((mem b).view.loc (c : Thread nD τ) ↦{fullShare} f : sProp 𝕄) = piece c b fullShare 0 (brows b) 0 4096 (ofBuf b f) := by
  rw [piece_whole, ext_ofBuf]

/-- A whole buffer given to the flows. -/
theorem give_any (c : Dev nD) (b : Bf) (f : (mem b).view.ty.Contents (Elt F)) :
    ((mem b).view.loc (c : Thread nD τ) ↦{fullShare} f : sProp 𝕄) ⊢ bigSep Finset.univ fun g => fa c b g 0 (brows b) := by
  rw [whole_at, ← pany_flows]
  exact piece_any c b _ _ _ _ _

/-- A whole buffer taken back from the flows. -/
theorem take_any (c : Dev nD) (b : Bf) :
    (bigSep Finset.univ fun g => fa (F := F) c b g 0 (brows b))
      ⊢ (iprop(∃ f, (mem b).view.loc (c : Thread nD τ) ↦{fullShare} f) : sProp 𝕄) := by
  rw [← pany_flows]
  unfold pany
  iintro ⟨%g, H⟩
  iexists ext b g
  iapply (Entails.of_eq (piece_whole c b fullShare g)); iexact H

/-- The result's columns together. -/
theorem take_res (P : Dev nD → ℕ → ℕ → Elt F .f32) (c : Dev nD) :
    (bigSep Finset.univ fun f => fp c .o fullShare f 0 4096 (tot P f) : sProp 𝕄)
      = ((mem .o).view.loc (c : Thread nD τ) ↦{fullShare} ext .o (res P)) := by
  rw [← piece_whole, show brows .o = 4096 from rfl, piece_flows]
  exact bigSep_congr fun f _ => piece_congr fun i j _ _ h1 h2 => by unfold res; rw [flc_eq f j h1 h2]

end Cert.KernelIdeal.Own
-- ==== Proof.Credits.lean ====
module

public import proofs.«01_k».proof.Proof.Gather

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! What the devices owe each other at the start, and that it is what each one's waits are credited with. -/

/-- What a device owes at the start. -/
def O₀ (c : Dev nD) : CellTallies nD τ sig Unit := dueM c [.x, .y, .z1, .z2]

theorem cell_eq (a b : Dev nD) (k k' : Option SK) : (cell a k = cell b k') ↔ a = b ∧ k = k' := by
  constructor
  · intro h
    exact ⟨congrArg (fun g : GSem nD τ sig => g.1.1) h, loc_inj (congrArg Prod.snd h)⟩
  · rintro ⟨rfl, rfl⟩; rfl

/-- A debt at a semaphore. -/
theorem tally_cell (a b : Dev nD) (k k' : Option SK) (n : ℕ) :
    (tallyAt (cell a k) () n : CellTallies nD τ sig Unit) (cell b k') () = if b = a ∧ k' = k then n else 0 := by
  rw [tallyAt_apply]
  exact if_congr ⟨fun h => (cell_eq _ _ _ _).mp h.1, fun h => ⟨(cell_eq _ _ _ _).mpr h, rfl⟩⟩ rfl rfl

/-- How often a list of transfers pays a semaphore, by the amount. -/
def paid (l : List (Fl × St)) : SK → ℕ
  | kRd f w => l.count (f, w)
  | kRv f w => l.count (f, w) * ncr f w
  | _ => 0

theorem paid_order (k : SK) : paid order k = crd k := by
  have h (f : Fl) (w : St) : order.count (f, w) = 1 := by revert w; revert f; decide +kernel
  match k with
  | kRd f w => exact h f w
  | kSd _ _ => rfl
  | kRv f w => show order.count (f, w) * ncr f w = ncr f w; rw [h, Nat.one_mul]
  | kLc _ _ => rfl

theorem dues_none (c c' : Dev nD) (l : List (Fl × St)) : dues c l (cell c' none) () = 0 := by
  induction l with
  | nil => rfl
  | cons x l ih =>
    obtain ⟨f, w⟩ := x
    unfold dues
    rw [Pi.add_apply, Finsupp.add_apply, Pi.add_apply, Finsupp.add_apply, tally_cell, tally_cell, ih,
      if_neg fun h => Option.some_ne_none _ h.2.symm, if_neg fun h => Option.some_ne_none _ h.2.symm]
    rfl

theorem dues_some (c c' : Dev nD) (k : SK) (l : List (Fl × St)) :
    dues c l (cell c' (some k)) () = if tgt c k = c' then paid l k else 0 := by
  induction l with
  | nil =>
    have h : paid [] k = 0 := by
      match k with
      | kRd f w => rfl
      | kSd _ _ => rfl
      | kRv f w => exact Nat.zero_mul _
      | kLc _ _ => rfl
    rw [h, ite_self]; rfl
  | cons x l ih =>
    obtain ⟨f, w⟩ := x
    unfold dues
    rw [Pi.add_apply, Finsupp.add_apply, Pi.add_apply, Finsupp.add_apply, tally_cell, tally_cell, ih]
    match k with
    | kRd f' w' =>
      rw [if_neg (c := c' = pt f w c ∧ some (kRd f' w') = some (kRv f w)) fun h => by simp at h]
      show _ = if pt f' w' c = c' then ((f, w) :: l).count (f', w') else 0
      show _ + (0 + if pt f' w' c = c' then l.count (f', w') else 0) = _
      by_cases h : (f, w) = (f', w')
      · obtain ⟨rfl, rfl⟩ := Prod.mk.inj h
        rw [List.count_cons_self]
        by_cases h' : pt f w c = c'
        · rw [if_pos ⟨h'.symm, rfl⟩, if_pos h', if_pos h']; omega
        · rw [if_neg fun x => h' x.1.symm, if_neg h', if_neg h']
      · rw [if_neg fun x => h (by simpa [eq_comm] using x.2), List.count_cons_of_ne h]; omega
    | kRv f' w' =>
      rw [if_neg (c := c' = pt f w c ∧ some (kRv f' w') = some (kRd f w)) fun h => by simp at h]
      show _ = if pt f' w' c = c' then ((f, w) :: l).count (f', w') * ncr f' w' else 0
      show 0 + (_ + if pt f' w' c = c' then l.count (f', w') * ncr f' w' else 0) = _
      by_cases h : (f, w) = (f', w')
      · obtain ⟨rfl, rfl⟩ := Prod.mk.inj h
        rw [List.count_cons_self]
        by_cases h' : pt f w c = c'
        · rw [if_pos ⟨h'.symm, rfl⟩, if_pos h', if_pos h', Nat.add_mul, Nat.one_mul]; omega
        · rw [if_neg fun x => h' x.1.symm, if_neg h', if_neg h']
      · rw [if_neg fun x => h (by simpa [eq_comm] using x.2), List.count_cons_of_ne h]; omega
    | kSd f' w' =>
      rw [if_neg fun h => by simp at h, if_neg fun h => by simp at h, Nat.zero_add, Nat.zero_add]; rfl
    | kLc f' s =>
      rw [if_neg fun h => by simp at h, if_neg fun h => by simp at h, Nat.zero_add, Nat.zero_add]; rfl

theorem owed_some (c c' : Dev nD) (k : SK) : O₀ c (cell c' (some k)) () = if tgt c k = c' then crd k else 0 := by
  have h (d : Dr) : (tallyAt (cell (par d c) none) () 1 : CellTallies nD τ sig Unit) (cell c' (some k)) () = 0 := by
    rw [tally_cell, if_neg fun h => Option.some_ne_none _ h.2]
  unfold O₀
  simp only [dueM, Pi.add_apply, Finsupp.add_apply, h, Nat.zero_add]
  rw [dues_some, paid_order]

theorem owed_none (c c' : Dev nD) : O₀ c (cell c' none) () = ∑ d : Dr, if par d c' = c then 1 else 0 := by
  have h (d : Dr) : (tallyAt (cell (par d c) none) () 1 : CellTallies nD τ sig Unit) (cell c' none) () = if par d c' = c then 1 else 0 := by
    rw [tally_cell]
    refine if_congr ⟨fun h => ?_, fun h => ⟨?_, rfl⟩⟩ rfl rfl
    · rw [h.1, par_par]
    · rw [← h, par_par]
  unfold O₀
  simp only [dueM, Pi.add_apply, Finsupp.add_apply, h, dues_none]
  rfl

/-- What all devices owe a semaphore. -/
def crdO : Option SK → ℕ
  | none => 4
  | some k => crd k

theorem owed_all (c : Dev nD) (k : Option SK) : ∑ c' : Dev nD, O₀ c' (cell c k) () = crdO k := by
  match k with
  | none =>
    rw [Finset.sum_congr rfl fun c' _ => owed_none c' c, Finset.sum_comm]
    rw [Finset.sum_congr rfl fun d _ => (Finset.sum_ite_eq Finset.univ (par d c) fun _ => 1).trans (if_pos (Finset.mem_univ _))]
    rfl
  | some k =>
    rw [Finset.sum_congr rfl fun c' _ => owed_some c' c k]
    rw [Finset.sum_congr rfl fun c' _ => if_congr (show tgt c' k = c ↔ c' = tgt c k from
      ⟨fun h => by rw [← h, tgt_tgt], fun h => by rw [h, tgt_tgt]⟩) rfl rfl]
    exact (Finset.sum_ite_eq' Finset.univ (tgt c k) fun _ => crd k).trans (if_pos (Finset.mem_univ _))

theorem launch_cell (c : Dev nD) (k : Option SK) :
    tallyOn (cell c k) (launchCredit (Pipeline.owing O₀) 0 (cell c k)) = (tallyAt (cell c k) () (crdO k) : CellTallies nD τ sig Unit) := by
  unfold tallyAt; refine congrArg _ (Finsupp.ext fun u => ?_); cases u
  rw [Pipeline.launchCredit_owing, Finsupp.single_eq_same, owed_all]

/-- The credits of a device's waits. -/
def funds (c : Dev nD) : sProp 𝕄 :=
  iprop(cred (tallyAt (cell c none) () 4) ∗ bigSep Finset.univ fun k : SK => cred (tallyAt (cell c (some k)) () (crd k)))

theorem creds (c : Dev nD) : (Pipeline.launchCred O₀ c : sProp 𝕄) ⊢ funds c := by
  unfold Pipeline.launchCred funds
  have h : (bigSep Finset.univ fun k : SK => cred (tallyAt (cell c (some k)) () (crd k)) : sProp 𝕄)
      = bigSep (Finset.univ.map ⟨sloc, sloc_inj⟩) fun sm : SemLoc sig => cred (tallyOn ((c.tc : Thread nD τ), sm) (launchCredit (Pipeline.owing O₀) 0 ((c.tc : Thread nD τ), sm))) := by
    rw [bigSep_map]
    exact bigSep_congr fun k _ => congrArg cred (launch_cell c (some k)).symm
  rw [bigSep_univ_at _ (SemLoc.reg brS), h]
  refine BIClass.sep_mono (Entails.of_eq (congrArg cred (launch_cell c none))) (bigSep_subset fun sm hm => ?_)
  obtain ⟨k, -, rfl⟩ := Finset.mem_map.mp hm
  exact Finset.mem_erase.mpr ⟨fun h => Option.some_ne_none k (loc_inj (a₁ := some k) (a₂ := none) h), Finset.mem_univ _⟩

/-! ## What is owed lies on levels above zero -/

theorem O₀_pos {c : Dev nD} {g : GSem nD τ sig} {u : Unit} (h : 0 < O₀ c g u) : ∃ c' k, g = cell c' k ∧ 0 < lvK k := by
  unfold O₀ at h
  simp only [dueM, Pi.add_apply, Finsupp.add_apply] at h
  have hd (d : Dr) (h : 0 < (tallyAt (cell (par d c) none) () 1 : CellTallies nD τ sig Unit) g u) : ∃ c' k, g = cell c' k ∧ 0 < lvK k :=
    ⟨_, _, tally_pos h, Nat.one_pos⟩
  rcases Nat.add_pos_iff_pos_or_pos.mp h with h | h
  · exact hd _ h
  rcases Nat.add_pos_iff_pos_or_pos.mp h with h | h
  · exact hd _ h
  rcases Nat.add_pos_iff_pos_or_pos.mp h with h | h
  · exact hd _ h
  rcases Nat.add_pos_iff_pos_or_pos.mp h with h | h
  · exact hd _ h
  obtain ⟨x, -, rfl | rfl⟩ := dues_pos h
  · exact ⟨_, _, rfl, Nat.succ_pos _⟩
  · exact ⟨_, _, rfl, Nat.succ_pos _⟩

theorem O₀_cut {c : Dev nD} {g : GSem nD τ sig} {u : Unit} (h : 0 < O₀ c g u) : u ∈ L g ∧ 0 < lv g u := by
  obtain ⟨c', k, rfl, hk⟩ := O₀_pos h
  exact ⟨L_cell c' k, hk.trans_eq (lv_cell c' k).symm⟩

end Cert.KernelIdeal.Own
-- ==== Proof.Region.lean ====
module

public import proofs.«01_k».proof.Proof.Credits
public import proofs.«01_k».proof.Proof.Gen.KernelIdeal.Regions

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! The call as one region of the program: what enters it, what its body does, what leaves it. -/

variable (m : (ℓ : Loc nD τ sig) → Buf (Elt F) ℓ)

/-- What each device computes before the call, by row and column. -/
def PV (c : Dev nD) : ℕ → ℕ → Elt F .f32 := ofBuf .p (V1 m c main_v21)

/-- What the call leaves. -/
def outs : Outs (F := F) := fun _ r c => if h : r = main_v22 then h ▸ ext .o (res (PV m)) else V1 m c r

theorem outs_o (c : Dev nD) : outs m 2 main_v22 c = ext .o (res (PV m)) := by unfold outs; rw [dif_pos rfl]
theorem outs_p (c : Dev nD) : outs m 2 main_v21 c = V1 m c main_v21 := by unfold outs; rw [dif_neg (by decide)]

theorem V2_p (c : Dev nD) : V2 m (outs m) c main_v21 = V1 m c main_v21 := by
  unfold V2
  rw [Function.update_of_ne (StableHlo.devRef_ne_of_ne (by decide)), Function.update_self, outs_p]
theorem V2_o (c : Dev nD) : V2 m (outs m) c main_v22 = ext .o (res (PV m)) := by
  unfold V2
  rw [Function.update_self, outs_o]

/-! ## What the protocol keeps from launch to the call -/

/-- All invariants, and that every device's meeting may be paid. -/
def recs (K : GSem nD τ sig → ℕ) : sProp 𝕄 :=
  iprop(invs (PV m) K ∗ bigSep Finset.univ fun c : Dev nD => reached ER (cell c none) 0)

instance recs_persistent (K : GSem nD τ sig → ℕ) : BI.Persistent (recs m K) := by unfold recs; infer_instance

/-- A device's tokens, its position at the meeting, and its rights to open its own semaphores. -/
def line (c : Dev nD) : sProp 𝕄 :=
  iprop((bigSep Finset.univ fun d : Dr => dutyTok ER (cell (par d c) none) 0 d)
    ∗ (bigSep Finset.univ fun k : SK => dutyTok ER (cell (tgt c k) (some k)) 0 Dr.x)
    ∗ atPos ER (cell c none) 0 ∅ 0 ∗ bigSep Finset.univ fun k : SK => openTok ER (cell c (some k)))

/-- A device's state before the call opens its semaphores, -/
def Tk (c : Dev nD) : sProp 𝕄 := iprop((∃ K, recs m K ∗ line c) ∗ funds c)
/-- and after. -/
def Xk (c : Dev nD) : sProp 𝕄 :=
  iprop(∃ K, Env0 (PV m) K c ∗ (bigSep Finset.univ fun d : Dr => dutyTok ER (cell (par d c) none) 0 d) ∗ atPos ER (cell c none) 0 ∅ 0
    ∗ cred (tallyAt (cell c none) () 4) ∗ bigSep Finset.univ fun f : Fl => iprop(lst (gh c f) (.s0 :: aft .s0) ∗ ghL c f 0 ∗ ghL c f 1 ∗ ghL c f 2))
/-- What is kept of the meeting when the call is over. -/
def Yk (c : Dev nD) : sProp 𝕄 := semVal (cell c none) 0

/-- The kernel's own semaphores open. -/
theorem opening (K : GSem nD τ sig → ℕ) (c : Dev nD) :
    iprop(invs (PV m) K ∗ (bigSep Finset.univ fun k : SK => openTok ER (cell c (some k))) ∗ bigSep Finset.univ fun k : SK => semVal (cell c (some k)) 0)
      ⊢ (|={Set.univ}=> iprop((bigSep Finset.univ fun k : SK => atPos ER (cell c (some k)) 0 ∅ 0) ∗ opn c) : sProp 𝕄) := by
  have h : iprop(invs (PV m) K ∗ bigSep Finset.univ fun k : SK => iprop(openTok ER (cell c (some k)) ∗ semVal (cell c (some k)) 0))
      ⊢ (bigSep Finset.univ fun k : SK => iprop(|={Set.univ}=> (atPos ER (cell c (some k)) 0 ∅ 0 ∗ reached ER (cell c (some k)) 0)) : sProp 𝕄) :=
    bigSep_with_persistent fun k _ => by
      iintro ⟨#HI, Ho, Hv⟩
      iapply (Rounds.cell_open ER (rd (PV m)) (κ := K (cell c (some k))) (g := cell c (some k)) (Set.mem_univ _))
      isplitr; · iapply (invs_at (PV m) K c (some k)); iexact HI
      isplitl [Ho] <;> iassumption
  unfold opn
  iintro ⟨#HI, Ho, Hv⟩
  ihave H := (Entails.of_eq (bigSep_sep' (s := Finset.univ) (Φ := fun k : SK => (openTok ER (cell c (some k)) : sProp 𝕄)) (Ψ := fun k : SK => (semVal (cell c (some k)) 0 : sProp 𝕄))).symm) $$ [Ho Hv]
  · isplitl [Ho] <;> iassumption
  ihave H := h $$ [H]
  · isplitr; · iexact HI
    iexact H
  ihave H := (bigSep_fupd (Finset.univ : Finset SK) fun k => iprop(atPos ER (cell c (some k)) 0 ∅ 0 ∗ reached ER (cell c (some k)) 0)) $$ H
  imod H with H
  imodintro
  iapply (Entails.of_eq (bigSep_sep' (s := Finset.univ) (Φ := fun k : SK => (atPos ER (cell c (some k)) 0 ∅ 0 : sProp 𝕄)) (Ψ := fun k : SK => (reached ER (cell c (some k)) 0 : sProp 𝕄))))
  iexact H

theorem reach_at (d : Dr) (c : Dev nD) :
    (bigSep Finset.univ fun c : Dev nD => reached ER (cell c none) 0) ⊢ (reached ER (cell (par d c) none) 0 : sProp 𝕄) :=
  bigSep_elim (i := par d c) (Finset.mem_univ _)

theorem hopen (c : Dev nD) : iprop(Tk m c ∗ Pipeline.ownSems0 sloc c ∗ levAts L lv) ⊢ (|={Set.univ}=> Xk m c : sProp 𝕄) := by
  have hs : (Pipeline.ownSems0 sloc c : sProp 𝕄) ⊢ bigSep Finset.univ fun k : SK => semVal (cell c (some k)) 0 := .rfl
  have hr : (bigSep Finset.univ fun c : Dev nD => reached ER (cell c none) 0) ⊢ (bigSep Finset.univ fun d : Dr => reached ER (cell (par d c) none) 0 : sProp 𝕄) :=
    bigSep_intro_persistent fun d _ => reach_at d c
  unfold Tk Xk recs line funds
  iintro ⟨⟨⟨%K, ⟨#HI, #HR⟩, Ht, Hd, Ha, Ho⟩, H4, Hc⟩, Hs, #HL⟩
  ihave Hs := hs $$ Hs
  imod (opening m K c) $$ [Ho Hs] with ⟨Hp, #Hop⟩
  · isplitr; · iexact HI
    isplitl [Ho] <;> iassumption
  imodintro
  iexists K
  isplitr
  · unfold Env0
    isplitr; · iexact HI
    isplitr; · iexact Hop
    isplitr; · iapply hr; iexact HR
    iexact HL
  isplitl [Ht]; · iexact Ht
  isplitl [Ha]; · iexact Ha
  isplitl [H4]; · iexact H4
  iapply (flows_in c)
  isplitl [Hd]; · iexact Hd
  isplitl [Hp] <;> iassumption

/-! ## The body -/

/-- The two scratch buffers, at any contents. -/
def scr (c : Dev nD) : sProp 𝕄 :=
  iprop((∃ f, (mem .acc).view.loc (c : Thread nD τ) ↦{fullShare} f) ∗ (∃ f, (mem .recv).view.loc (c : Thread nD τ) ↦{fullShare} f))

/-- The local product and the result. -/
def arrs (c : Dev nD) (o : (mem .o).view.ty.Contents (Elt F)) : sProp 𝕄 :=
  iprop(((mem .p).view.loc (c : Thread nD τ) ↦{fullShare} (show (mem .p).view.ty.Contents (Elt F) from V1 m c main_v21)) ∗ (mem .o).view.loc (c : Thread nD τ) ↦{fullShare} o)

/-- The local product is the flows' columns of it. -/
theorem whole_p (c : Dev nD) :
    (((mem .p).view.loc (c : Thread nD τ) ↦{fullShare} (show (mem .p).view.ty.Contents (Elt F) from V1 m c main_v21)) : sProp 𝕄)
      = bigSep Finset.univ fun f => fp c .p fullShare f 0 4096 (PV m c) :=
  (whole_at c .p _).trans (piece_flows c .p fullShare 0 4096 _)

/-- The flows at their beginnings. -/
theorem start_flows (c : Dev nD) (o : (mem .o).view.ty.Contents (Elt F)) :
    iprop(scr c ∗ arrs m c o ∗ bigSep Finset.univ fun f : Fl => iprop(lst (gh c f) (.s0 :: aft .s0) ∗ ghL c f 0 ∗ ghL c f 1 ∗ ghL c f 2))
      ⊢ (bigSep Finset.univ fun f : Fl => FS (PV m) f c none : sProp 𝕄) := by
  have e (f : Fl) : (FS (PV m) f c none : sProp 𝕄) = iprop((fp c .p fullShare f 0 4096 (PV m c) ∗ fa c .acc f 0 2048 ∗ fa c .recv f 0 1024 ∗ fa c .o f 0 4096
      ∗ ghL c f 0 ∗ ghL c f 1 ∗ ghL c f 2) ∗ lst (gh c f) (.s0 :: aft .s0)) := rfl
  rw [bigSep_congr fun f _ => e f]
  simp only [bigSep_sep']
  unfold scr arrs
  rw [whole_p]
  iintro ⟨⟨⟨%a, Ha⟩, ⟨%r, Hr⟩⟩, ⟨Hp, Ho⟩, Hg, H0, H1, H2⟩
  isplitr [Hg]
  · isplitl [Hp]; · iexact Hp
    isplitl [Ha]; · iapply (give_any c .acc a); iexact Ha
    isplitl [Hr]; · iapply (give_any c .recv r); iexact Hr
    isplitl [Ho]; · iapply (give_any c .o o); iexact Ho
    isplitl [H0]; · iexact H0
    isplitl [H1] <;> iassumption
  iexact Hg

/-- The flows at their ends. -/
theorem end_flows (c : Dev nD) :
    (bigSep Finset.univ fun f : Fl => FE (PV m) f c : sProp 𝕄)
      ⊢ iprop(scr c ∗ arrs m c (ext .o (res (PV m))) ∗ bigSep Finset.univ fun k : SK => semVal (cell c (some k)) 0) := by
  have e (f : Fl) : (FE (PV m) f c : sProp 𝕄) = iprop((((lc0 c f 0 ∗ lc0 c f 1 ∗ fp c .p fullShare f 0 4096 (PV m c)) ∗ lc0 c f 2
      ∗ fa c .acc f 0 2048 ∗ fa c .recv f 0 1024) ∗ fp c .o fullShare f 0 4096 (tot (PV m) f)) ∗ lst (dn c f) (.s8 :: bef .s8)) := rfl
  have hout := flows_out (F := F) c
  simp only [bigSep_sep'] at hout
  rw [bigSep_congr fun f _ => e f]
  simp only [bigSep_sep']
  unfold scr arrs
  rw [whole_p, ← take_res]
  iintro ⟨⟨⟨⟨L0, L1, Hp⟩, L2, Ha, Hr⟩, Ho⟩, Hd⟩
  isplitl [Ha Hr]
  · isplitl [Ha]; · iapply (take_any c .acc); iexact Ha
    iapply (take_any c .recv); iexact Hr
  isplitl [Hp Ho]
  · isplitl [Hp] <;> iassumption
  iapply hout
  isplitl [Hd]; · iexact Hd
  isplitl [L0]; · iexact L0
  isplitl [L1] <;> iassumption

/-- What holds before the body, -/
def Φ0 (c : Dev nD) : sProp 𝕄 :=
  iprop((Xk m c ∗ scr c ∗ arrs m c (show (mem .o).view.ty.Contents (Elt F) from V1 m c main_v22)) ∗ ∃ r, prngReg c r)
/-- and after. -/
def Φ1 (c : Dev nD) : sProp 𝕄 :=
  iprop((Yk c ∗ scr c ∗ arrs m c (ext .o (res (PV m))) ∗ bigSep Finset.univ fun k : SK => semVal (cell c (some k)) 0) ∗ ∃ r, prngReg c r)

/-- The call's body. -/
theorem call_runs (c : Dev nD) (Q : PUnit → sProp 𝕄) :
    iprop(Φ0 m c ∗ ow c (O₀ c)) ⊢ iprop((iprop(Φ1 m c ∗ ow c 0) -∗ Q ⟨⟩) -∗ Runs c body Q) := by
  unfold Φ0 Φ1 Xk Yk O₀
  iintro ⟨⟨⟨⟨%K, #HE, Ht, Ha, Hc, Hg⟩, Hs, Hr⟩, Hp⟩, HO⟩ Hk
  iapply (body_runs (PV m) K c Q) $$ [Ht Ha Hc Hg Hs Hr HO]
  · isplitr; · iexact HE
    isplitl [Ht]; · iexact Ht
    isplitl [Ha]; · iexact Ha
    isplitl [Hc]; · iexact Hc
    isplitl [HO]; · iexact HO
    iapply (start_flows m c _)
    isplitl [Hs]; · iexact Hs
    isplitl [Hr]; · iexact Hr
    iexact Hg
  iintro ⟨Hb, HF, HO⟩
  ihave HF := (end_flows m c) $$ HF
  iapply Hk
  isplitr [HO]
  · isplitr [Hp]
    · isplitl [Hb]; · iexact Hb
      iexact HF
    iexact Hp
  iexact HO

/-! ## The region -/

/-- The call's one point: it owes the protocol's debts before it and nothing after. -/
def dat0 (c : Dev nD) : Dat τ (Elt F) Unit ℕ UU ℕ cfg0 c where
  A w := w.elim0
  after w := w.elim0
  Φ t := if t.val = 0 then Φ0 m c else Φ1 m c
  q w := w.elim0
  owed t := if t.val = 0 then O₀ c else 0

def pdats : (p : Fin 1) → (c : Dev nD) → Dat τ (Elt F) Unit ℕ UU ℕ (Pipeline.pin (pcfgs (F := F)) adm p) c
  | 0 => dat0 m

theorem bigSep_none {M : Type} [URA M] (Φ : Fin 0 → sProp M) : bigSep Finset.univ Φ = (BI.emp : sProp M) :=
  bigSep_univ_eq_bigSepL [] (by decide) (by decide) Φ

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_of {c : Dev nD} (t : Fin (cfg0.N + 1)) (O : CellTallies nD τ sig Unit) (h0 : (dat0 (F := F) m c).owed t = O) :
    (ow c O : sProp 𝕄) ⊢ (dat0 m c).owesAt () t := by
  unfold ow Dat.owesAt Pipeline.owesWithin Dat.bound; rw [h0]
  iintro ⟨%W, HO⟩; iexists W; isplitr; · ipureintro; exact fun _ _ => Or.inl trivial
  iexact HO
theorem owesAt_to {c : Dev nD} (t : Fin (cfg0.N + 1)) (O : CellTallies nD τ sig Unit) (h0 : (dat0 (F := F) m c).owed t = O) :
    ((dat0 m c).owesAt () t : sProp 𝕄) ⊢ ow c O := by
  unfold ow Dat.owesAt Pipeline.owesWithin; rw [h0]
  iintro ⟨%W, -, HO⟩; iexists W; iexact HO

/-- The body obligation of the call. -/
theorem body0 (c : Dev nD) : BodyObligation (dat0 (F := F) m c) defs₀ 𝒱₀ () Set.univ := fun t => by
  obtain rfl := fin_N0 t
  rw [bigSep_none, bigSep_none]
  rw [show (dat0 m c).Φ t0_0.castSucc = Φ0 m c from rfl, show (dat0 m c).Φ t0_0.succ = Φ1 m c from rfl]
  have hb := body_eq (F := F)
  iintro ⟨HΦ, HO, -⟩
  ihave HO := (owesAt_to m _ (O₀ c) (owed_first m c)) $$ HO
  have hrun := call_runs m c fun _ => iprop(Φ1 m c ∗ (dat0 m c).owesAt () t0_0.succ ∗ emp)
  rw [Runs, ← hb] at hrun
  iapply hrun $$ [HΦ HO]
  · isplitl [HΦ] <;> iassumption
  iintro ⟨HΦ, HO⟩
  isplitl [HΦ]; · iexact HΦ
  isplitl [HO]; · iapply (owesAt_of m t0_0.succ 0 (owed_last m c)); iexact HO
  iempintro

/-- The buffers the call addresses itself. -/
def Hs : Finset (DevRef τ sig) := {Proc.devRef .tc main_v21, Proc.devRef .tc main_v22}

theorem Hs_eq (c : Dev nD) (W : Valuation τ sig (Elt F)) : (StableHlo.held (c : Thread nD τ) Hs W : sProp 𝕄)
    = iprop((((c : Thread nD τ).loc main_v21) ↦{fullShare} W main_v21) ∗ ((c : Thread nD τ).loc main_v22) ↦{fullShare} W main_v22) := by
  unfold StableHlo.held
  rw [bigSep_eq_bigSepL_of_eq [Proc.devRef .tc main_v21, Proc.devRef .tc main_v22] (by decide) (by decide)]
  rfl

theorem Hs_sub : Hs ⊆ Pipeline.ucRefs τ sig := by decide +kernel

theorem held_in (c : Dev nD) : (StableHlo.held (c : Thread nD τ) Hs (V1 m c) : sProp 𝕄)
    ⊢ arrs m c (show (mem .o).view.ty.Contents (Elt F) from V1 m c main_v22) := by
  rw [Hs_eq]; exact .rfl
theorem held_out (c : Dev nD) : (arrs m c (ext .o (res (PV m))) : sProp 𝕄) ⊢ StableHlo.held (c : Thread nD τ) Hs (V2 m (outs m) c) := by
  rw [Hs_eq, V2_p, V2_o]; exact .rfl

theorem hin (c : Dev nD) : iprop(Pipeline.scopedRest (Pipeline.pin (pcfgs (F := F)) adm 0).spec c ∗ (∃ r, prngReg c r)
      ∗ StableHlo.held (c.tc : Thread nD τ) Hs (V1 m c) ∗ Xk m c) ⊢ (pdats m 0 c).Φ 0 := by
  have hr : (Pipeline.scopedRest (Pipeline.pin (pcfgs (F := F)) adm 0).spec c : sProp 𝕄) ⊢ scr c := Entails.of_eq (scopedRest0_eq c)
  rw [show (pdats m 0 c).Φ 0 = Φ0 m c from rfl]
  unfold Φ0
  iintro ⟨Hs, Hp, Hh, HX⟩
  isplitr [Hp]
  · isplitl [HX]; · iexact HX
    isplitl [Hs]; · iapply hr; iexact Hs
    iapply (held_in m c); iexact Hh
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V2 m (outs m) c) ∗ Pipeline.ownSems0 sloc c ∗ Yk c) := by
  have hr : (scr c : sProp 𝕄) ⊢ Pipeline.scopedRest (Pipeline.pin (pcfgs (F := F)) adm 0).spec c := Entails.of_eq (scopedRest0_eq c).symm
  have hs : (bigSep Finset.univ fun k : SK => semVal (cell c (some k)) 0) ⊢ (Pipeline.ownSems0 sloc c : sProp 𝕄) := .rfl
  rw [show (pdats m 0 c).Φ (Fin.last _) = Φ1 m c from rfl]
  unfold Φ1
  iintro ⟨⟨HY, Hs, Ha, Ho⟩, Hp⟩
  isplitl [Hs]; · iapply hr; iexact Hs
  isplitl [Hp]; · iexact Hp
  isplitl [Ha]; · iapply (held_out m c); iexact Ha
  isplitl [Ho]; · iapply hs; iexact Ho
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_cut h
  · exact absurd h (Nat.lt_irrefl 0)

theorem sloc_own : Pipeline.OwnSemFacts cfg0.spec sloc where
  isScoped k := by
    match k with
    | kRd f w => revert w; revert f; decide +kernel
    | kSd f w => revert w; revert f; decide +kernel
    | kRv f w => revert w; revert f; decide +kernel
    | kLc f s => revert s; revert f; decide +kernel
  inj := sloc_inj
  disj _ w := w.elim0

theorem V2_rest (c : Dev nD) (b : DevRef τ sig) (h : b ∈ Pipeline.ucRefs τ sig \ Hs) : V2 m (outs m) c b = V1 m c b := by
  have h := (Finset.mem_sdiff.mp h).2
  unfold Hs at h
  rw [Finset.mem_insert, Finset.mem_singleton, not_or] at h
  unfold V2
  rw [Function.update_of_ne h.2, Function.update_of_ne h.1]

set_option backward.isDefEq.respectTransparency.types false in
/-- The call. -/
def reg0 : Pipeline.RegionSeg (pcfgs (F := F)) adm (pdats m) () defs₀ 𝒱₀ L lv 0 :=
  Pipeline.RegionSeg.ofTalk (pcfgs (F := F)) adm (pdats m) () defs₀ 𝒱₀ L lv 0 sloc sloc_own
    Hs (Pipeline.ucRefs τ sig) Hs_sub kitP rfl (fun c => (body0 m c).loose)
    (fun _ => 0) O₀ (fun c => (owed_zero m c).trans (zero_add _).symm) (owed_last m) (fun _ => rfl) (fun _ w => w.elim0)
    (V1 m) (V2 m (outs m)) (V2_rest m)
    (Tk m) Yk (Xk m) Yk (hopen m) (hin m) (hout m)
    (fun c => by iintro H; imodintro; iexact H)
    (fun _ => 0)
    ⟨fun _ w => w.elim0, fun _ w => w.elim0, fun c t g i h => cutD m c t g i h⟩
    (fun _ => iprop(emp))
    (fun _ w => w.elim0) (fun _ w => w.elim0)

end Cert.KernelIdeal.Own
-- ==== Proof.Run.lean ====
module

public import proofs.«01_k».proof.Proof.Region
public import Idealize.ShloMosaic.Lib.Quiescent

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg cellOf)
open Cert.KernelIdeal Cert.KernelIdeal.Gen

variable {F : FTy → Type} [FloatOps F]

local notation "𝕄" => MT nD τ sig Unit (Elt F) ℕ UU ℕ

/-! The launch, and the run of the whole program. -/

variable (m : (ℓ : Loc nD τ sig) → Buf (Elt F) ℓ) (ρ : Dev nD → PrngReg)

/-! ## Semaphores and tokens at launch -/

def barEmb : Dev nD ↪ GSem nD τ sig := ⟨fun c => cell c none, fun _ _ h => ((cell_eq _ _ _ _).mp h).1⟩
def scEmb : Dev nD × SK ↪ GSem nD τ sig :=
  ⟨fun x => cell x.1 (some x.2), fun _ _ h => Prod.ext ((cell_eq _ _ _ _).mp h).1 (Option.some.inj ((cell_eq _ _ _ _).mp h).2)⟩

/-- The meetings' semaphores, usable from the start, -/
def barCells : Finset (GSem nD τ sig) := Finset.univ.map barEmb
/-- and the kernel's own, which the call opens. -/
def scCells : Finset (GSem nD τ sig) := Finset.univ.map scEmb

theorem cells_apart : Disjoint barCells scCells := by
  rw [Finset.disjoint_left]
  rintro g h₁ h₂
  obtain ⟨c, -, rfl⟩ := Finset.mem_map.mp h₁
  obtain ⟨x, -, h⟩ := Finset.mem_map.mp h₂
  exact Option.some_ne_none _ ((cell_eq _ _ _ _).mp h).2

/-- One token for each payment. -/
def tokOf : Dev nD × (Dr ⊕ SK) → GSem nD τ sig × ℕ × Dr
  | (c, .inl d) => (cell c none, 0, d)
  | (c, .inr k) => (cell c (some k), 0, .x)

theorem tokOf_inj : Function.Injective tokOf := by
  rintro ⟨c, d | k⟩ ⟨c', d' | k'⟩ h
  · rw [((cell_eq _ _ _ _).mp (congrArg Prod.fst h)).1, show d = d' from congrArg (fun x => x.2.2) h]
  · exact absurd ((cell_eq _ _ _ _).mp (congrArg Prod.fst h)).2.symm (Option.some_ne_none _)
  · exact absurd ((cell_eq _ _ _ _).mp (congrArg Prod.fst h)).2 (Option.some_ne_none _)
  · have e := (cell_eq _ _ _ _).mp (congrArg Prod.fst h)
    rw [e.1, Option.some.inj e.2]

def toks : Finset (GSem nD τ sig × ℕ × Dr) := Finset.univ.map ⟨tokOf, tokOf_inj⟩

/-- Each device may hold what another one, found by an involution, would. -/
theorem around {ι : Type} [Fintype ι] (t : Dev nD → ι → Dev nD) (ht : ∀ i c, t (t c i) i = c) (Φ : Dev nD → ι → sProp 𝕄) :
    (bigSep Finset.univ fun c => bigSep Finset.univ fun i => Φ c i) = bigSep Finset.univ fun c => bigSep Finset.univ fun i => Φ (t c i) i := by
  rw [bigSep_univ_comm, bigSep_univ_comm (fun c i => Φ (t c i) i)]
  exact bigSep_congr fun i _ => bigSep_univ_equiv (⟨fun c => t c i, fun c => t c i, ht i, ht i⟩ : Dev nD ≃ Dev nD) fun c => Φ c i

/-- The tokens, each with the device that pays with it. -/
theorem toks_eq : bigSep toks (fun x => (dutyTok ER x.1 x.2.1 x.2.2 : sProp 𝕄))
    = iprop((bigSep Finset.univ fun c : Dev nD => bigSep Finset.univ fun d : Dr => dutyTok ER (cell (par d c) none) 0 d)
      ∗ bigSep Finset.univ fun c : Dev nD => bigSep Finset.univ fun k : SK => dutyTok ER (cell (tgt c k) (some k)) 0 Dr.x) := by
  rw [← around (fun c d => par d c) par_par fun c d => (dutyTok ER (cell c none) 0 d : sProp 𝕄),
    ← around tgt tgt_tgt fun c k => (dutyTok ER (cell c (some k)) 0 Dr.x : sProp 𝕄), ← bigSep_sep']
  unfold toks
  rw [bigSep_map, bigSep_univ_prod]
  exact bigSep_congr fun c _ => bigSep_univ_sum _

/-- What the launch starts from. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's beginning, all of it with device 0 until it is dealt out. -/
def G (c : Dev nD) : sProp 𝕄 := if c = 0 then BI.own (ER (launchOf barCells scCells toks)) else iprop(emp)

theorem G_all : bigSep Finset.univ G = (BI.own (ER (launchOf barCells scCells toks)) : sProp 𝕄) := by
  have hr : bigSep (Finset.univ.erase (0 : Dev nD)) G = (BI.emp : sProp 𝕄) :=
    (bigSep_congr fun c hc => if_neg (Finset.ne_of_mem_erase hc)).trans (BI.bigSep_emp_const _)
  rw [bigSep_univ_at _ (0 : Dev nD), hr]
  exact (BI.equiv_iff.mp sep_emp).trans (if_pos rfl)

theorem unscoped_eq : ∀ sm : SemLoc sig, sm.isScoped .tc = false → sm = .reg brS := by decide +kernel

theorem unscopedSems0_eq (c : Dev nD) : (unscopedSems0 c : sProp 𝕄) = semVal (cell c none) 0 := by
  unfold unscopedSems0
  rw [show (Finset.univ.filter fun sm : SemLoc sig => ¬ sm.isScoped .tc) = {SemLoc.reg brS} from by decide +kernel, BI.bigSep_singleton]; rfl

/-- The records out of what the launch gives. -/
theorem recs_intro (K : GSem nD τ sig → ℕ) :
    iprop((bigSep (barCells ∪ scCells) fun g => cellInv ER (rd (PV m)) (K g) g) ∗ bigSep barCells fun g => reached ER g 0) ⊢ (recs m K : sProp 𝕄) := by
  have hm (c : Dev nD) (k : Option SK) : cell c k ∈ barCells ∪ scCells := by
    match k with
    | none => exact Finset.mem_union_left _ (Finset.mem_map_of_mem barEmb (Finset.mem_univ c))
    | some k => exact Finset.mem_union_right _ (Finset.mem_map_of_mem scEmb (Finset.mem_univ (c, k)))
  have h : (bigSep (barCells ∪ scCells) fun g => cellInv ER (rd (PV m)) (K g) g) ⊢ (invs (PV m) K : sProp 𝕄) :=
    bigSep_intro_persistent fun c _ => bigSep_intro_persistent fun k _ => bigSep_elim (hm c k)
  unfold recs
  refine BIClass.sep_mono h (Entails.of_eq ?_)
  unfold barCells
  rw [bigSep_map]; rfl

/-! ## Before and after the call -/

/-- What rides beside the buffers. -/
def E : Fin 2 → Dev nD → sProp 𝕄
  | 0, c => iprop(Tk m c ∗ (∃ r, prngReg c r) ∗ ow c (O₀ c))
  | 1, c => iprop(semVal (cell c none) 0 ∗ ow c 0)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V2 m (outs m) c) ∗ semVal (cell c none) 0)

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg0_pre (c : Dev nD) : iprop(StableHlo.held (c : Thread nD τ) (Pipeline.ucRefs τ sig) (V1 m c) ∗ E m 0 c) ⊢ (reg0 m).pre c := by
  show iprop(_ ∗ (Tk m c ∗ (∃ r, prngReg c r) ∗ ow c (O₀ c)))
    ⊢ iprop(StableHlo.held (c.tc : Thread nD τ) (Pipeline.arrRefs (τ := τ) (pcfgs (F := F) 0).spec) (V1 m c) ∗ (∃ r, prngReg c r)
    ∗ (StableHlo.held (c.tc : Thread nD τ) (Pipeline.ucRefs τ sig) (V1 m c) ∗ emp) ∗ Tk m c ∗ ∃ Wd, owes (c : Thread nD τ) (0 + O₀ c) Wd)
  rw [held_arr, zero_add]
  unfold ow
  iintro ⟨Hh, HT, Hp, HO⟩
  isplitr; · iempintro
  isplitl [Hp]; · iexact Hp
  isplitl [Hh]
  · isplitl [Hh]; · iexact Hh
    iempintro
  isplitl [HT]; · iexact HT
  iexact HO

theorem reg0_post (c : Dev nD) : (reg0 m).post c
    ⊢ iprop(StableHlo.held (c : Thread nD τ) (Pipeline.ucRefs τ sig) (V2 m (outs m) c) ∗ (semVal (cell c none) 0 ∗ ∃ W, owes (c : Thread nD τ) (0 : CellTallies nD τ sig Unit) W)) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (Pipeline.ucRefs τ sig) (V2 m (outs m) c) ∗ emp) ∗ Yk c ∗ ∃ Wd, owes (c : Thread nD τ) (0 : CellTallies nD τ sig Unit) Wd) ⊢ _
  rw [held_arr]
  unfold Yk
  iintro ⟨-, -, ⟨Hh, -⟩, Hb, HO⟩
  isplitl [Hh]; · iexact Hh
  isplitl [Hb]; · iexact Hb
  iexact HO

/-- What of a core's holdings at launch is not the protocol's. -/
def rest (c : Dev nD) : sProp 𝕄 :=
  iprop(StableHlo.held (c : Thread nD τ) (Pipeline.ucRefs τ sig) (V0 m c) ∗ funds c ∗ owes (c : Thread nD τ) (O₀ c) ∅ ∗ ∃ r, prngReg c r)

theorem T₀_intro (K : GSem nD τ sig → ℕ) (c : Dev nD) : iprop(recs m K ∗ (line c ∗ rest m c)) ⊢ T₀ m c := by
  show _ ⊢ iprop(_ ∗ (Tk m c ∗ (∃ r, prngReg c r) ∗ ow c (O₀ c)))
  unfold rest Tk ow
  iintro ⟨#HR, Hl, Hh, Hf, HO, Hp⟩
  isplitl [Hh]; · iexact Hh
  isplitl [Hl Hf]
  · isplitl [Hl]
    · iexists K
      isplitr; · iexact HR
      iexact Hl
    iexact Hf
  isplitl [Hp]; · iexact Hp
  iexists ∅; iexact HO

/-- The launch deals everything out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (cell c none) 0 ∗ G c)) : sProp 𝕄) := by
    rw [unscopedSems0_eq]
    unfold rest
    rw [← Pipeline.unscopedBufs_held (Ix := Unit) (Name := ℕ) (U := UU) (Lvl := ℕ) c (V0 m c)]
    iintro ⟨Hh, Hus, HO, Hcr, Hp, HG⟩
    isplitl [Hh HO Hcr Hp]
    · isplitl [Hh]; · iexact Hh
      isplitl [Hcr]; · iapply (creds (F := F) c); iexact Hcr
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (rest m) ∗ (bigSep Finset.univ fun c : Dev nD => semVal (cell c none) 0) ∗ bigSep Finset.univ G) : sProp 𝕄) := by
    rw [← bigSep_sep', ← bigSep_sep']
    exact bigSep_mono fun c _ => hcore c
  have hv : bigSep Finset.univ (fun c : Dev nD => (semVal (cell c none) 0 : sProp 𝕄)) ⊢ bigSep barCells (fun g => (semVal g 0 : sProp 𝕄)) := by
    unfold barCells; rw [bigSep_map]; exact .rfl
  have hat : bigSep barCells (fun g => (atPos ER g 0 ∅ 0 : sProp 𝕄)) ⊢ bigSep Finset.univ (fun c : Dev nD => (atPos ER (cell c none) 0 ∅ 0 : sProp 𝕄)) := by
    unfold barCells; rw [bigSep_map]; exact .rfl
  have hopen : bigSep scCells (fun g => (openTok ER g : sProp 𝕄))
      ⊢ bigSep Finset.univ (fun c : Dev nD => bigSep Finset.univ fun k : SK => (openTok ER (cell c (some k)) : sProp 𝕄)) := by
    unfold scCells; rw [bigSep_map, bigSep_univ_prod]; exact .rfl
  have hG : bigSep Finset.univ (G (F := F)) ⊢ BI.own (ER (launchOf barCells scCells toks)) :=
    Entails.of_eq (G_all (F := F))
  iintro ⟨H, -⟩
  ihave H := hall $$ H
  icases H with ⟨HB, Hv, HG⟩
  imod (Rounds.fund_launch ER (rd (PV m)) cells_apart (fun g _ h => h) toks) $$ [Hv HG] with ⟨%K, -, #Hinv, #Hr, Hat, Hopen, Htok⟩
  · isplitl [Hv]
    · iapply hv; iexact Hv
    · iapply hG; iexact HG
  imodintro
  iapply (bigSep_with_persistent (R := recs m K) (Φ := fun c => iprop(line c ∗ rest m c)) fun c _ => T₀_intro m K c)
  isplitr
  · iapply (recs_intro m K)
    isplitr; · iexact Hinv
    iexact Hr
  rw [bigSep_sep']
  isplitr [HB]
  · unfold line
    rw [bigSep_sep', bigSep_sep', bigSep_sep']
    ihave Htok := (Entails.of_eq (toks_eq (F := F))) $$ Htok
    icases Htok with ⟨Ht, Hd⟩
    isplitl [Ht]; · iexact Ht
    isplitl [Hd]; · iexact Hd
    isplitl [Hat]; · iapply hat; iexact Hat
    iapply hopen; iexact Hopen
  · iexact HB

/-! ## The run -/

/-- The program's parts on a device. -/
abbrev parts (c : Dev nD) : List (Seg (pcfgs (F := F)) adm (pdats m) () defs₀ 𝒱₀ L lv) := segs m 𝒱₀ L lv (E m) () (pdats m) (reg0 m) c

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

set_option backward.isDefEq.respectTransparency.types false in
/-- The run: the program ends on every device, with the arguments as they were, the result the sum of the devices' products,
    and every semaphore at zero. -/
theorem run : θ_run defs (onTc (τ := τ) (main (F := F))) ⟨m, fun _ => 0, ρ⟩ (fun r => (∀ c : Dev nD,
      r.2.mem ((c.tc : Thread nD τ).loc main_v22) = (show Buf (Elt F) ((c.tc : Thread nD τ).loc main_v22) from ext .o (res (PV m)))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main
    (parts m)
    (fun c Q => by
      rewrite [main_chain c, Seg.run_eq_chain,
        show (parts m c).map Seg.prog = [
          StableHlo.seq (hostOps0 c),
          Prog.lift (.customCall (Pipeline.entry 0) ()) ] from rfl]
      dsimp (config := { failIfUnchanged := false }) only
      exact .rfl)
    (fun c => by simp only [parts, segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, reg0_pre m c, (reg0_post m c).trans (by
      show _ ⊢ iprop((StableHlo.held (c : Thread nD τ) (Pipeline.ucRefs τ sig) (V2 m (outs m) c) ∗ semVal (cell c none) 0)
        ∗ ∃ W, owes (c : Thread nD τ) (0 : CellTallies nD τ sig Unit) W)
      iintro ⟨Hh, Hb0, HO⟩
      isplitr [HO]
      · isplitl [Hh] <;> iassumption
      · iexact HO)⟩)
    (hinit := init m ρ)
    (QY := fun c s => (∀ r : Ref sig .tc, ¬ (Proc.devRef .tc r : DevRef τ sig).isScoped → s.mem ((c.tc : Thread nD τ).loc r) = V2 m (outs m) c r)
      ∧ s.sem (cell c none) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨fun r hr => h (Proc.devRef .tc r) (mem_uc r hr), by simpa using hb⟩
      · iexact HSI)
    (hQ := fun s h hs => ⟨fun c => ⟨((h c).1 main_v22 (by decide)).trans (V2_o m c),
        ((h c).1 main_arg0 (by decide)).trans (V2_main_arg0 m (outs m) c),
        ((h c).1 main_arg1 (by decide)).trans (V2_main_arg1 m (outs m) c)⟩,
      sem_eq_zero hs fun c sm hsm => by
        obtain rfl := unscoped_eq sm hsm
        exact (h c).2⟩)

end Cert.KernelIdeal.Own
-- ==== Proof.Sums.lean ====
module

public import proofs.«01_k».proof.Proof.Sched
public import Mathlib.Algebra.BigOperators.Fin
public import Mathlib.Algebra.BigOperators.Group.List.Basic

@[expose] public section

set_option maxRecDepth 16384

noncomputable section

namespace Cert.KernelIdeal.Own

open Idealize.ShloMosaic Idealize.ShloMosaic.TcCoe
open Cert.KernelIdeal Cert.KernelIdeal.Gen
open scoped BigOperators

/-! Sums over the devices, at the ideal values: a flow's four halvings add up all sixteen devices, and the devices'
pieces of a contraction make up the whole contraction. -/

/-- The devices a partial sum is over, as they were added. -/
def met (f : Fl) : ℕ → Dev nD → List (Dev nD)
  | 0, c => [c]
  | j + 1, c => met f j c ++ met f j (par (ord f j) c)

/-- After four halvings, each device once. -/
theorem met_all (f : Fl) (c : Dev nD) : (met f 4 c).Perm (List.finRange nD) := by
  revert c; revert f; decide +kernel

theorem ps_met (P : Dev nD → ℕ → ℕ → Elt Ideal .f32) (f : Fl) (r k : ℕ) :
    ∀ (j : ℕ) (c : Dev nD), (ps P f j c r k : EReal) = ((met f j c).map fun d => (P d r k : EReal)).sum
  | 0, c => by simp [ps, met]
  | j + 1, c => by
    show (ps P f j c r k : EReal) + (ps P f j (par (ord f j) c) r k : EReal) = _
    rw [ps_met P f r k j c, ps_met P f r k j (par (ord f j) c), met, List.map_append, List.sum_append]

/-- The finished sum is the sum over the devices. -/
theorem tot_sum (P : Dev nD → ℕ → ℕ → Elt Ideal .f32) (f : Fl) (r k : ℕ) :
    (tot P f r k : EReal) = ∑ c : Dev nD, (P c r k : EReal) := by
  unfold tot
  rw [ps_met, ((met_all f _).map _).sum_eq, ← List.ofFn_eq_map, Fin.sum_ofFn]

/-- Which of the sixteen pieces of the contraction a device has. -/
def pc (c : Dev nD) : Fin 16 := ⟨(c.val / 4 % 2 * 8 + c.val / 8 % 2 * 4 + c.val % 4) % 16, Nat.mod_lt _ (by decide)⟩

theorem pc_bij : Function.Bijective pc := by
  rw [Fintype.bijective_iff_injective_and_card]
  exact ⟨by decide +kernel, rfl⟩

/-- The pieces, together, are the whole contraction. -/
theorem pieces (g : Fin (16 * 1024) → EReal) :
    ∑ c : Dev nD, ∑ j : Fin 1024, g (finProdFinEquiv (pc c, j)) = ∑ k, g k := by
  rw [← Equiv.sum_comp finProdFinEquiv g, Fintype.sum_prod_type]
  exact Equiv.sum_comp (Equiv.ofBijective pc pc_bij) fun q => ∑ j : Fin 1024, g (finProdFinEquiv (q, j))

end Cert.KernelIdeal.Own
-- ==== Proof.Product.lean ====
module

public import proofs.«01_k».proof.Proof.Run
public import proofs.«01_k».proof.Proof.Sums
public import proofs.«01_k».proof.Proof.Gen.ReferenceIdeal.Run
public import Idealize.ShloMosaic.Lib.Layout
public import Idealize.ShloMosaic.Lib.StableHlo.RunClose
public import Idealize.ShloMosaic.Lib.MatmulPlain
public import Idealize.ShloMosaic.Lib.StackMember
public import Idealize.ShloMosaic.Lib.Pointwise.ShapeOpsCore

@[expose] public section

set_option maxRecDepth 16384

noncomputable section

namespace Cert.KernelIdeal.Own

open Idealize.ShloMosaic Idealize.ShloMosaic.TcCoe
open Cert.KernelIdeal Cert.KernelIdeal.Gen
open scoped BigOperators

/-! The product each device computes before the call, and the sum of the devices' products. -/

/-- The first column of a device's slice, as the program computes it. -/
def colW (c : Dev nD) : IVec S_ 32 :=
  muli (addi (muli (Host.remui (Host.divui (constantI S_ 32 (Dev.word c)) (constantI S_ 32 8#32)) (constantI S_ 32 2#32)) (constantI S_ 32 4#32))
    (Host.remui (Host.divui (constantI S_ 32 (Dev.word c)) (constantI S_ 32 1#32)) (constantI S_ 32 4#32))) (constantI S_ 32 1024#32)

/-- The same, counted from the end if negative. -/
def colN (c : Dev nD) : IVec S_ 32 := select (cmpi .slt (colW c) (constantI S_ 32 0#32)) (addi (colW c) (constantI S_ 32 8192#32)) (colW c)

/-- Where a device's slice starts, -/
def start (c : Dev nD) : Fin 2 → Int := fun k => ((![constantI S_ 32 0#32, colN c] : Fin 2 → IVec S_ 32) k (Shape.Idx.first h_S_)).toInt

/-- in numbers. -/
def off (c : Dev nD) : ℕ := (c.val / 8 % 2 * 4 + c.val % 4) * 1024

theorem start_eq (c : Dev nD) : start c 0 = 0 ∧ start c 1 = off c := by revert c; decide +kernel

/-- A device's slice of an argument. -/
def cut (c : Dev nD) (x : FVec Ideal S4096x8192 .f32) : FVec Ideal S4096x1024 .f32 := Host.dynamicSlice S4096x1024 x (start c) sliceFits_S4096x8192_S4096x1024

variable (m : (ℓ : Loc nD τ sig) → Buf (Elt Ideal) ℓ)

/-- What the operations before the call leave for it. -/
theorem V1_v21 (c : Dev nD) : (V1 m c main_v21 : FVec Ideal S4096x4096 .f32)
    = Host.dotGeneral dot_S4096x1024_S4096x1024_S4096x4096_1_1_0_0_n_n none
      (cut c (m ((c.tc : Thread nD τ).loc main_arg0))) (cut c (m ((c.tc : Thread nD τ).loc main_arg1))) := by
  unfold V1
  after_results_simp_entrywise
  rfl

/-! ## At an index -/

/-- A product with the right operand transposed, at an index. -/
theorem dot_at (x y : FVec Ideal S4096x1024 .f32) (r k : Fin 4096) :
    Host.dotGeneral (F := Ideal) dot_S4096x1024_S4096x1024_S4096x4096_1_1_0_0_n_n none x y (ix2 r k) = ∑ j : Fin 1024, (x (ix2 r j) * y (ix2 k j) : EReal) := by
  have h := Ideal.matmul_transposedRhs_apply none x y (fun _ => (0 : EReal)) r k
  rw [Ideal.matmul_apply, zero_add, zero_add] at h
  exact (Ideal.dotGeneral_apply (DotDims.transposedRhs 4096 1024 4096) none _ x y (ix2 r k)).trans h

/-- The whole array of which each device has a half of the columns. -/
abbrev W : Shape := ⟨2, ![4096, 16384]⟩

/-- Which half of the columns a device has. -/
abbrev blk (c : Dev nD) : (b : Fin 2) → Fin (Layout.cutSize [2, 2, 4] ((![[], [1]] : Fin 2 → List Nat) b)) := Layout.meshBlock [2, 2, 4] ![[], [1]] c

theorem blk_val (c : Dev nD) : (blk c 0).val = 0 ∧ (blk c 1).val = c.val / 4 % 2 := by revert c; decide +kernel

theorem half_tiles : Layout.TilesN (⟨2, ![4096, 8192]⟩ : Shape) W (fun b => Layout.cutSize [2, 2, 4] ((![[], [1]] : Fin 2 → List Nat) b)) := by decide

/-- A device's half. -/
abbrev part (c : Dev nD) (X : W.Idx → EReal) : FVec Ideal S4096x8192 .f32 := Layout.blockN ⟨2, ![4096, 8192]⟩ W (blk c) X half_tiles

theorem off_le (c : Dev nD) : off c + 1024 ≤ 8192 := by revert c; decide +kernel
theorem pc_off (c : Dev nD) : c.val / 4 % 2 * 8192 + off c = 1024 * (pc c).val := by revert c; decide +kernel

/-- An index by its two coordinates. -/
theorem ix2_of {a b : ℕ} (i : (⟨2, ![a, b]⟩ : Shape).Idx) (r : Fin a) (k : Fin b) (h0 : (i 0).val = r.val) (h1 : (i 1).val = k.val) : i = ix2 r k :=
  funext fun x => match x with
    | ⟨0, _⟩ => Fin.ext h0
    | ⟨1, _⟩ => Fin.ext h1

/-- A device's half at an index is the whole array there. -/
theorem part_at (c : Dev nD) (X : W.Idx → EReal) (i : S4096x8192.Idx) (r : Fin 4096) (k : Fin 16384)
    (h0 : (i 0).val = r.val) (h1 : c.val / 4 % 2 * 8192 + (i 1).val = k.val) : (part c X i : EReal) = X (ix2 r k) := by
  have e : half_tiles.idx (blk c) i = ix2 r k := by
    refine ix2_of _ r k ?_ ?_
    · rw [Layout.TilesN.idx_val]
      refine (congrArg (fun n => n * 4096 + (i 0).val) (blk_val c).1).trans ?_
      rw [Nat.zero_mul, Nat.zero_add, h0]
    · rw [Layout.TilesN.idx_val]
      exact (congrArg (fun n => n * 8192 + (i 1).val) (blk_val c).2).trans h1
  unfold part
  rw [Layout.blockN_apply, e]

/-- A device's slice of its half is its piece of the whole array. -/
theorem cut_part (c : Dev nD) (X : W.Idx → EReal) (r : Fin 4096) (j : Fin 1024) :
    (cut c (part c X) (ix2 r j) : EReal) = X (ix2 r (finProdFinEquiv (pc c, j) : Fin (16 * 1024))) := by
  unfold cut
  rw [Host.dynamicSlice_apply]
  refine part_at c X _ r _ ?_ ?_
  · have h := Host.clampedStart_of_le (s := S4096x8192) (t := S4096x1024) rfl (start c) 0 0 (start_eq c).1 (Nat.le_refl 4096)
    exact (congrArg (· + r.val) h).trans (Nat.zero_add _)
  · have h := Host.clampedStart_of_le (s := S4096x8192) (t := S4096x1024) rfl (start c) 1 (off c) (start_eq c).2 (off_le c)
    refine (congrArg (fun n => c.val / 4 % 2 * 8192 + (n + j.val)) h).trans ?_
    have := pc_off c
    show c.val / 4 % 2 * 8192 + (off c + j.val) = j.val + 1024 * (pc c).val
    omega

/-- The sum of the devices' products is the product of the whole arrays. -/
theorem products (X Y : W.Idx → EReal) (hX : ∀ c : Dev nD, m ((c.tc : Thread nD τ).loc main_arg0) = part c X)
    (hY : ∀ c : Dev nD, m ((c.tc : Thread nD τ).loc main_arg1) = part c Y) (r k : Fin 4096) :
    (res (PV m) r.val k.val : EReal) = ∑ j : Fin 16384, X (ix2 r j) * Y (ix2 k j) := by
  unfold res
  rw [tot_sum, ← pieces fun j => X (ix2 r j) * Y (ix2 k j)]
  refine Finset.sum_congr rfl fun c _ => ?_
  have e : (PV m c r.val k.val : EReal) = (V1 m c main_v21 : FVec Ideal S4096x4096 .f32) (ix2 r k) :=
    congrArg (V1 m c main_v21 : FVec Ideal S4096x4096 .f32) (ix_self 4095 (ix2 r k))
  rw [e, V1_v21, dot_at, hX c, hY c]
  exact Finset.sum_congr rfl fun j _ => by rw [cut_part, cut_part]

/-! ## The reference -/

theorem ref_at (X Y : W.Idx → EReal) (r k : Fin 4096) :
    Host.dotGeneral (F := Ideal) (φ₁ := .f32) (φ₂ := .f32) Cert.ReferenceIdeal.dot_S4096x16384_S16384x4096_S4096x4096_1_0_0_1_n_n none X
      (transpose Cert.ReferenceIdeal.S16384x4096 [1, 0] Y Cert.ReferenceIdeal.Facts₀.transposes_S4096x16384_S16384x4096_1_0) (ix2 r k)
      = ∑ j : Fin 16384, X (ix2 r j) * Y (ix2 k j) := by
  refine (StackMember.dotGeneral_plain_apply (m := 4096) (n := 4096) (k := 16384) none X _ r k).trans (Finset.sum_congr rfl fun j _ => ?_)
  exact congrArg (X (ix2 r j) * ·) (congrArg Y (ix2_of _ k j rfl rfl))

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Sums
public import proofs.«01_k».proof.Proof.Product
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel at the ideal values ends on every device, its arguments unchanged and every counter at zero. -/
theorem frame_ideal : Cert.quiescent_KernelIdeal := fun m ρ _ =>
  (θ_run _ _ _).mono (fun _ h => ⟨fun c => ⟨(h.1 c).2.1, (h.1 c).2.2⟩, h.2⟩) (Cert.KernelIdeal.Own.run (F := Ideal) m ρ)

/-- So does the kernel at the bit patterns: its text is the same, and the run above is for any float values. -/
theorem frame_bits : Cert.quiescent_Kernel := fun m ρ _ =>
  (θ_run _ _ _).mono (fun _ h => ⟨fun c => ⟨(h.1 c).2.1, (h.1 c).2.2⟩, h.2⟩) (Cert.KernelIdeal.Own.run (F := Bits) m ρ)

/-- The reference has no semaphore, and leaves its arguments alone. -/
theorem frame_ref : Cert.quiescent_ReferenceIdeal := fun m ρ _ =>
  (θ_run _ _ _).mono (fun r h => ⟨fun c => ⟨(h c).2.1, (h c).2.2⟩, sem_eq_zero_of_no_sems rfl r.2⟩) (Cert.ReferenceIdeal.Value.run (F := Ideal) m ρ)

open Cert.KernelIdeal.Own Idealize.ShloMosaic.TcCoe in
/-- What the kernel leaves, the sum over the devices of their products, is the reference's product of the whole arrays. -/
theorem same (m : (ℓ : Loc Cert.KernelIdeal.nD Cert.KernelIdeal.τ Cert.KernelIdeal.sig) → Buf (Elt Ideal) ℓ) (X Y : W.Idx → EReal)
    (hX : ∀ c : Dev Cert.KernelIdeal.nD, m ((c.tc : Thread Cert.KernelIdeal.nD Cert.KernelIdeal.τ).loc Cert.KernelIdeal.main_arg0) = part c X)
    (hY : ∀ c : Dev Cert.KernelIdeal.nD, m ((c.tc : Thread Cert.KernelIdeal.nD Cert.KernelIdeal.τ).loc Cert.KernelIdeal.main_arg1) = part c Y) :
    (ext .o (res (PV m)) : Cert.KernelIdeal.S4096x4096.Idx → EReal)
      = Host.dotGeneral (F := Ideal) (φ₁ := .f32) (φ₂ := .f32) Cert.ReferenceIdeal.dot_S4096x16384_S16384x4096_S4096x4096_1_0_0_1_n_n none X
        (transpose Cert.ReferenceIdeal.S16384x4096 [1, 0] Y Cert.ReferenceIdeal.Facts₀.transposes_S4096x16384_S16384x4096_1_0) := by
  funext i
  have e : ∃ r k : Fin 4096, i = Idealize.ShloMosaic.ValueIdx.ix2 r k := ⟨i 0, i 1, ix2_of i _ _ rfl rfl⟩
  obtain ⟨r, k, rfl⟩ := e
  exact (products m X Y hX hY r k).trans (ref_at X Y r k).symm

/-- The kernel and the reference compute the same, at the ideal values. -/
theorem algebraic : Cert.algebraic_KernelIdeal_ReferenceIdeal := fun m ρ m' ρ' _ h =>
  ⟨_, (θ_run _ _ _).mono (fun _ hr c => ⟨(hr.1 c).1.trans (same m _ _ (fun c => (h c).1) fun c => (h c).2), (hr.1 c).2.1, (hr.1 c).2.2⟩)
      (Cert.KernelIdeal.Own.run (F := Ideal) m ρ),
    (θ_run _ _ _).mono (fun _ hr => ⟨(hr 0).1, (hr 0).2.1, (hr 0).2.2⟩) (Cert.ReferenceIdeal.Value.run (F := Ideal) m' ρ')⟩

theorem claim : Cert.Claim := ⟨Cert.Kernel.Gen.facts, Cert.KernelIdeal.Gen.facts, Cert.ReferenceIdeal.Gen.facts,
  frame_bits, frame_ideal, frame_ref, trivial, algebraic⟩

end Cert.Proof

end
